-- ==== Defs.lean ====
def Pre_Kernel [hPre_index_names_band : Cert.Pre_index_names_band.Facts] (m : (ℓ : Loc Cert.Kernel.nD Cert.Kernel.τ Cert.Kernel.sig) → Buf (Elt Bits) ℓ) : Prop :=
  ∀ c : Dev Cert.Kernel.nD,
    (Cert.Pre_index_names_band.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_index_names_band : Cert.Pre_index_names_band.Facts] (m : (ℓ : Loc Cert.KernelIdeal.nD Cert.KernelIdeal.τ Cert.KernelIdeal.sig) → Buf (Elt Ideal) ℓ) : Prop :=
  ∀ c : Dev Cert.KernelIdeal.nD,
    (Cert.Pre_index_names_band.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_names_band [hPre_index_names_band : Cert.Pre_index_names_band.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_names_band.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_index_names_band : Cert.Pre_index_names_band.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_index_names_band : Cert.Pre_index_names_band.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_index_names_band [hReferenceIdeal : Cert.ReferenceIdeal.Facts] [hPre_index_names_band : Cert.Pre_index_names_band.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_names_band m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_names_band : Cert.Pre_index_names_band.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_index_names_band : Cert.Pre_index_names_band.Facts),
    quiescent_Kernel (hKernel := hKernel) (hPre_index_names_band := hPre_index_names_band)
    ∧ quiescent_KernelIdeal (hKernelIdeal := hKernelIdeal) (hPre_index_names_band := hPre_index_names_band)
    ∧ quiescent_ReferenceIdeal (hReferenceIdeal := hReferenceIdeal)
    ∧ quiescent_ReferenceIdeal_pre_index_names_band (hReferenceIdeal := hReferenceIdeal) (hPre_index_names_band := hPre_index_names_band)
    ∧ preserves_Kernel_KernelIdeal
    ∧ algebraic_KernelIdeal_ReferenceIdeal (hKernelIdeal := hKernelIdeal) (hReferenceIdeal := hReferenceIdeal) (hPre_index_names_band := hPre_index_names_band)
-- ==== Pre_index_names_band.lean ====
abbrev S180x256x256 : Shape := ⟨3, ![180, 256, 256]⟩
abbrev S_ : Shape := ⟨0, ![]⟩

class Facts : Prop where

variable [Facts]

def fn {F : FTy → Type} [FloatOps F] (main_arg0 : FVec F S180x256x256 .f32) (main_arg1 : IVec S_ 32) : IVec S_ 1 :=
  let main_c : IVec S_ 32 := constantI S_ 32 0#32
  let main_v0 : IVec S_ 1 := cmpi .sge main_arg1 main_c
  let main_c_0 : IVec S_ 32 := constantI S_ 32 180#32
  let main_v1 : IVec S_ 1 := cmpi .slt main_arg1 main_c_0
  let main_v2 : IVec S_ 1 := andi main_v0 main_v1
  main_v2
-- ==== Kernel.lean ====
abbrev S180x256x256 : Shape := ⟨3, ![180, 256, 256]⟩
abbrev S_ : Shape := ⟨0, ![]⟩
abbrev S1 : Shape := ⟨1, ![1]⟩
abbrev S181x256x256 : Shape := ⟨3, ![181, 256, 256]⟩
abbrev S1x256x256 : Shape := ⟨3, ![1, 256, 256]⟩
abbrev S2x256x256 : Shape := ⟨3, ![2, 256, 256]⟩
abbrev S256x256 : Shape := ⟨2, ![256, 256]⟩
abbrev S2x36x256x256 : Shape := ⟨4, ![2, 36, 256, 256]⟩
abbrev S2 : Shape := ⟨1, ![2]⟩
abbrev S1x36x256x256 : Shape := ⟨4, ![1, 36, 256, 256]⟩
abbrev S36x256x256 : Shape := ⟨3, ![36, 256, 256]⟩
abbrev S1x1x1 : Shape := ⟨3, ![1, 1, 1]⟩
abbrev S255x256 : Shape := ⟨2, ![255, 256]⟩
abbrev S1x256 : Shape := ⟨2, ![1, 256]⟩
abbrev S64x256x256 : Shape := ⟨3, ![64, 256, 256]⟩
abbrev S1x64x256 : Shape := ⟨3, ![1, 64, 256]⟩
abbrev S64x256 : Shape := ⟨2, ![64, 256]⟩
abbrev S64x255 : Shape := ⟨2, ![64, 255]⟩
abbrev S64x1 : Shape := ⟨2, ![64, 1]⟩
abbrev S64x256x1 : Shape := ⟨3, ![64, 256, 1]⟩
abbrev S16384x256 : Shape := ⟨2, ![16384, 256]⟩
abbrev S1x255 : Shape := ⟨2, ![1, 255]⟩
abbrev S1x1 : Shape := ⟨2, ![1, 1]⟩

abbrev nBuf : Space → Nat
  | .hbm => 3
  | .vmem => 9
  | .smem => 1
  | _ => 0

abbrev bufTy : (tb : Table) → Fin (tcTables nBuf tb) → BufTy
  | .hbm, ⟨0, _⟩ => ⟨S180x256x256, .f32⟩
  | .hbm, ⟨1, _⟩ => ⟨S_, .i32⟩
  | .hbm, ⟨2, _⟩ => ⟨S181x256x256, .f32⟩
  | .local _ .vmem, ⟨0, _⟩ => ⟨S1x256x256, .f32⟩
  | .local _ .vmem, ⟨1, _⟩ => ⟨S2x256x256, .i8⟩
  | .local _ .vmem, ⟨2, _⟩ => ⟨S256x256, .bf16⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S2x36x256x256, .f32⟩
  | .local _ .vmem, ⟨8, _⟩ => ⟨S1x256x256, .f32⟩
  | .local _ .smem, ⟨0, _⟩ => ⟨S1, .i32⟩
  | _, _ => ⟨S180x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v0 : Ref sig .tc := ⟨.smem, 0, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0

abbrev nD : Nat := 1
abbrev τ : Topo := Topo.v7x

variable {F : FTy → Type} [FloatOps F]

abbrev grid0 : Pipeline.Grid := ⟨1, ![5], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let c1_i32_42 : BitVec 32 := 1#32
  let v70 : BitVec 32 := Scalar.subi arg0 c1_i32_42
  let c2_i32_50 : BitVec 32 := 2#32
  let c0_i32_51 : BitVec 32 := 0#32
  let v82 : BitVec 1 := Scalar.cmpi .eq c2_i32_50 c0_i32_51
  let c1_i32_52 : BitVec 32 := 1#32
  let v83 : BitVec 32 := Scalar.select v82 c1_i32_52 c2_i32_50
  let v84 : BitVec 32 := Scalar.remsi v70 v83
  let c0_i32_54 : BitVec 32 := 0#32
  let v86 : BitVec 1 := Scalar.cmpi .slt v84 c0_i32_54
  let c0_i32_55 : BitVec 32 := 0#32
  let v87 : BitVec 1 := Scalar.cmpi .slt v83 c0_i32_55
  let v88 : BitVec 1 := Scalar.xori v86 v87
  let c0_i32_53 : BitVec 32 := 0#32
  let v85 : BitVec 1 := Scalar.cmpi .ne v84 c0_i32_53
  let v89 : BitVec 1 := Scalar.andi v88 v85
  let v90 : BitVec 32 := Scalar.addi v84 v83
  let v91 : BitVec 32 := Scalar.select v89 v90 v84
  ![v91.toNat]
def k0_off2 (i : grid0.Coords) : Fin 3 → Nat :=
  let arg0 : BitVec 32 := BitVec.ofNat 32 (i 0).val
  let c1_i32_42 : BitVec 32 := 1#32
  let v70 : BitVec 32 := Scalar.subi arg0 c1_i32_42
  let c36_i32_49 : BitVec 32 := 36#32
  let v81 : BitVec 32 := Scalar.muli v70 c36_i32_49
  let c0_i32_56 : BitVec 32 := 0#32
  let c0_i32_57 : BitVec 32 := 0#32
  ![v81.toNat, 0, 0]
def k0_off3 (i : grid0.Coords) : Fin 4 → Nat :=
  let arg0 : BitVec 32 := BitVec.ofNat 32 (i 0).val
  let c1_i32_42 : BitVec 32 := 1#32
  let v70 : BitVec 32 := Scalar.subi arg0 c1_i32_42
  let c2_i32_43 : BitVec 32 := 2#32
  let c0_i32_44 : BitVec 32 := 0#32
  let v71 : BitVec 1 := Scalar.cmpi .eq c2_i32_43 c0_i32_44
  let c1_i32_45 : BitVec 32 := 1#32
  let v72 : BitVec 32 := Scalar.select v71 c1_i32_45 c2_i32_43
  let v73 : BitVec 32 := Scalar.remsi v70 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let c0_i32_58 : BitVec 32 := 0#32
  let c0_i32_59 : BitVec 32 := 0#32
  let c0_i32_60 : BitVec 32 := 0#32
  ![v80.toNat, 0, 0, 0]
def k0_cond3 (i : grid0.Coords) : BitVec 1 :=
  let arg0 : BitVec 32 := BitVec.ofNat 32 (i 0).val
  let c3_i32 : BitVec 32 := 3#32
  let v6 : BitVec 1 := Scalar.cmpi .sle arg0 c3_i32
  let v7 : BitVec 32 := Scalar.extui v6
  let c0_i32_2 : BitVec 32 := 0#32
  let v8 : BitVec 1 := Scalar.cmpi .ne v7 c0_i32_2
  v8

def k0_off4 (i : grid0.Coords) : Fin 1 → Nat :=
  let arg0 : BitVec 32 := BitVec.ofNat 32 (i 0).val
  let c1_i32_42 : BitVec 32 := 1#32
  let v70 : BitVec 32 := Scalar.addi arg0 c1_i32_42
  let c2_i32_50 : BitVec 32 := 2#32
  let c0_i32_51 : BitVec 32 := 0#32
  let v82 : BitVec 1 := Scalar.cmpi .eq c2_i32_50 c0_i32_51
  let c1_i32_52 : BitVec 32 := 1#32
  let v83 : BitVec 32 := Scalar.select v82 c1_i32_52 c2_i32_50
  let v84 : BitVec 32 := Scalar.remsi v70 v83
  let c0_i32_54 : BitVec 32 := 0#32
  let v86 : BitVec 1 := Scalar.cmpi .slt v84 c0_i32_54
  let c0_i32_55 : BitVec 32 := 0#32
  let v87 : BitVec 1 := Scalar.cmpi .slt v83 c0_i32_55
  let v88 : BitVec 1 := Scalar.xori v86 v87
  let c0_i32_53 : BitVec 32 := 0#32
  let v85 : BitVec 1 := Scalar.cmpi .ne v84 c0_i32_53
  let v89 : BitVec 1 := Scalar.andi v88 v85
  let v90 : BitVec 32 := Scalar.addi v84 v83
  let v91 : BitVec 32 := Scalar.select v89 v90 v84
  ![v91.toNat]
def k0_off5 (i : grid0.Coords) : Fin 4 → Nat :=
  let arg0 : BitVec 32 := BitVec.ofNat 32 (i 0).val
  let c1_i32_42 : BitVec 32 := 1#32
  let v70 : BitVec 32 := Scalar.addi arg0 c1_i32_42
  let c2_i32_44 : BitVec 32 := 2#32
  let c0_i32_45 : BitVec 32 := 0#32
  let v72 : BitVec 1 := Scalar.cmpi .eq c2_i32_44 c0_i32_45
  let c1_i32_46 : BitVec 32 := 1#32
  let v73 : BitVec 32 := Scalar.select v72 c1_i32_46 c2_i32_44
  let v74 : BitVec 32 := Scalar.remsi v70 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c0_i32_56 : BitVec 32 := 0#32
  let c0_i32_57 : BitVec 32 := 0#32
  let c0_i32_58 : BitVec 32 := 0#32
  ![v81.toNat, 0, 0, 0]
def k0_off6 (i : grid0.Coords) : Fin 3 → Nat :=
  let arg0 : BitVec 32 := BitVec.ofNat 32 (i 0).val
  let c1_i32_42 : BitVec 32 := 1#32
  let v70 : BitVec 32 := Scalar.addi arg0 c1_i32_42
  let c36_i32_43 : BitVec 32 := 36#32
  let v71 : BitVec 32 := Scalar.muli v70 c36_i32_43
  let c0_i32_59 : BitVec 32 := 0#32
  let c0_i32_60 : BitVec 32 := 0#32
  ![v71.toNat, 0, 0]
def k0_off7 (i : grid0.Coords) : Fin 1 → Nat :=
  let arg0 : BitVec 32 := BitVec.ofNat 32 (i 0).val
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  ![v29.toNat]
def k0_off8 (i : grid0.Coords) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_14 : BitVec 32 := 0#32
  let c0_i32_15 : BitVec 32 := 0#32
  let c0_i32_16 : BitVec 32 := 0#32
  ![v19.toNat, 0, 0, 0]
def k0_off9 (i : grid0.Coords) : Fin 3 → Nat :=
  let arg0 : BitVec 32 := BitVec.ofNat 32 (i 0).val
  let c36_i32 : BitVec 32 := 36#32
  let v9 : BitVec 32 := Scalar.muli arg0 c36_i32
  let c0_i32_17 : BitVec 32 := 0#32
  let c0_i32_18 : BitVec 32 := 0#32
  ![v9.toNat, 0, 0]
def k0_off10 (i : grid0.Coords) : Fin 3 → Nat :=
  let arg0 : BitVec 32 := BitVec.ofNat 32 (i 0).val
  let c36_i32_25 : BitVec 32 := 36#32
  let v45 : BitVec 32 := Scalar.muli arg0 c36_i32_25
  let c0_i32_32 : BitVec 32 := 0#32
  let c0_i32_33 : BitVec 32 := 0#32
  ![v45.toNat, 0, 0]
def k0_cond5 (i : grid0.Coords) : BitVec 1 :=
  let arg0 : BitVec 32 := BitVec.ofNat 32 (i 0).val
  let c4_i32 : BitVec 32 := 4#32
  let v64 : BitVec 1 := Scalar.cmpi .slt arg0 c4_i32
  let v65 : BitVec 32 := Scalar.extui v64
  let c0_i32_39 : BitVec 32 := 0#32
  let v66 : BitVec 1 := Scalar.cmpi .ne v65 c0_i32_39
  v66

def k0_mult1 (i : grid0.Coords) : BitVec 32 :=
  let arg0 : BitVec 32 := BitVec.ofNat 32 (i 0).val
  let c64_i32 : BitVec 32 := 64#32
  let v72 : BitVec 32 := Scalar.muli arg0 c64_i32
  v72
def k0_off11 (i : grid0.Coords) : Fin 3 → Nat :=
  let c0 : Index := 0#32
  let arg0 : BitVec 32 := BitVec.ofNat 32 (i 0).val
  let c64_i32 : BitVec 32 := 64#32
  let v72 : BitVec 32 := Scalar.muli arg0 c64_i32
  let v73 : BitVec 32 := v72
  let v74 : Index := Scalar.indexCast v73
  let c0_42 : Index := 0#32
  ![0, v74.toNat, 0]
def k0_off12 (i : grid0.Coords) : Fin 3 → Nat :=
  let c1 : Index := 1#32
  let arg0 : BitVec 32 := BitVec.ofNat 32 (i 0).val
  let c64_i32 : BitVec 32 := 64#32
  let v72 : BitVec 32 := Scalar.muli arg0 c64_i32
  let v73 : BitVec 32 := v72
  let v77 : Index := Scalar.indexCast v73
  let c0_43 : Index := 0#32
  ![1, v77.toNat, 0]
def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S180x256x256 : Shape := ⟨3, ![180, 256, 256]⟩
abbrev S_ : Shape := ⟨0, ![]⟩
abbrev S1x256x256 : Shape := ⟨3, ![1, 256, 256]⟩
abbrev S256x256 : Shape := ⟨2, ![256, 256]⟩
abbrev S256x255 : Shape := ⟨2, ![256, 255]⟩
abbrev S65280 : Shape := ⟨1, ![65280]⟩
abbrev S65536 : Shape := ⟨1, ![65536]⟩
abbrev S65280x1 : Shape := ⟨2, ![65280, 1]⟩
abbrev S255x255 : Shape := ⟨2, ![255, 255]⟩
abbrev S65025 : Shape := ⟨1, ![65025]⟩
abbrev S65025x1 : Shape := ⟨2, ![65025, 1]⟩
abbrev S255x256 : Shape := ⟨2, ![255, 256]⟩
abbrev S256x256x1 : Shape := ⟨3, ![256, 256, 1]⟩
abbrev S256x256x4 : Shape := ⟨3, ![256, 256, 4]⟩
abbrev S181x256x256 : Shape := ⟨3, ![181, 256, 256]⟩

abbrev nBuf : Space → Nat
  | .hbm => 180
  | .vmem => 0
  | .smem => 0
  | _ => 0

abbrev hbmTy0_0 (i : Nat) : BufTy := match i % 128 with
  | 0 => ⟨S180x256x256, .f32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S1x256x256, .f32⟩
  | 24 => ⟨S256x256, .f32⟩
  | 25 => ⟨S_, .f32⟩
  | 26 => ⟨S_, .f32⟩
  | 27 => ⟨S_, .f32⟩
  | 28 => ⟨S_, .f32⟩
  | 29 => ⟨S256x256, .f32⟩
  | 30 => ⟨S256x256, .f32⟩
  | 31 => ⟨S_, .f32⟩
  | 32 => ⟨S_, .f32⟩
  | 33 => ⟨S_, .f32⟩
  | 34 => ⟨S256x256, .f32⟩
  | 35 => ⟨S256x256, .f32⟩
  | 36 => ⟨S_, .f32⟩
  | 37 => ⟨S256x256, .f32⟩
  | 38 => ⟨S256x256, .f32⟩
  | 39 => ⟨S256x256, .f32⟩
  | 40 => ⟨S_, .i32⟩
  | 41 => ⟨S_, .i32⟩
  | 42 => ⟨S_, .f32⟩
  | 43 => ⟨S256x256, .f32⟩
  | 44 => ⟨S256x256, .f32⟩
  | 45 => ⟨S_, .f32⟩
  | 46 => ⟨S256x256, .f32⟩
  | 47 => ⟨S256x256, .f32⟩
  | 48 => ⟨S256x256, .i32⟩
  | 49 => ⟨S256x255, .i32⟩
  | 50 => ⟨S256x255, .i32⟩
  | 51 => ⟨S_, .i32⟩
  | 52 => ⟨S256x255, .i32⟩
  | 53 => ⟨S256x255, .i32⟩
  | 54 => ⟨S256x255, .i32⟩
  | 55 => ⟨S65280, .i32⟩
  | 56 => ⟨S_, .i32⟩
  | 57 => ⟨S65536, .i32⟩
  | 58 => ⟨S_, .i32⟩
  | 59 => ⟨S_, .i32⟩
  | 60 => ⟨S65280, .i32⟩
  | 61 => ⟨S65280, .i32⟩
  | 62 => ⟨S_, .i32⟩
  | 63 => ⟨S65280, .i32⟩
  | 64 => ⟨S65280, .i1⟩
  | 65 => ⟨S_, .i32⟩
  | 66 => ⟨S65280, .i32⟩
  | 67 => ⟨S65280, .i32⟩
  | 68 => ⟨S65280, .i32⟩
  | 69 => ⟨S65280x1, .i32⟩
  | 70 => ⟨S_, .i32⟩
  | 71 => ⟨S65280, .i32⟩
  | 72 => ⟨S65536, .i32⟩
  | 73 => ⟨S256x256, .i32⟩
  | 74 => ⟨S255x255, .i32⟩
  | 75 => ⟨S255x255, .i32⟩
  | 76 => ⟨S_, .i32⟩
  | 77 => ⟨S255x255, .i32⟩
  | 78 => ⟨S255x255, .i32⟩
  | 79 => ⟨S255x255, .i32⟩
  | 80 => ⟨S65025, .i32⟩
  | 81 => ⟨S_, .i32⟩
  | 82 => ⟨S65536, .i32⟩
  | 83 => ⟨S_, .i32⟩
  | 84 => ⟨S_, .i32⟩
  | 85 => ⟨S65025, .i32⟩
  | 86 => ⟨S65025, .i32⟩
  | 87 => ⟨S_, .i32⟩
  | 88 => ⟨S65025, .i32⟩
  | 89 => ⟨S65025, .i1⟩
  | 90 => ⟨S_, .i32⟩
  | 91 => ⟨S65025, .i32⟩
  | 92 => ⟨S65025, .i32⟩
  | 93 => ⟨S65025, .i32⟩
  | 94 => ⟨S65025x1, .i32⟩
  | 95 => ⟨S_, .i32⟩
  | 96 => ⟨S65025, .i32⟩
  | 97 => ⟨S65536, .i32⟩
  | 98 => ⟨S256x256, .i32⟩
  | 99 => ⟨S255x256, .i32⟩
  | 100 => ⟨S255x256, .i32⟩
  | 101 => ⟨S_, .i32⟩
  | 102 => ⟨S255x256, .i32⟩
  | 103 => ⟨S255x256, .i32⟩
  | 104 => ⟨S255x256, .i32⟩
  | 105 => ⟨S65280, .i32⟩
  | 106 => ⟨S_, .i32⟩
  | 107 => ⟨S65536, .i32⟩
  | 108 => ⟨S_, .i32⟩
  | 109 => ⟨S_, .i32⟩
  | 110 => ⟨S65280, .i32⟩
  | 111 => ⟨S65280, .i32⟩
  | 112 => ⟨S_, .i32⟩
  | 113 => ⟨S65280, .i32⟩
  | 114 => ⟨S65280, .i1⟩
  | 115 => ⟨S_, .i32⟩
  | 116 => ⟨S65280, .i32⟩
  | 117 => ⟨S65280, .i32⟩
  | 118 => ⟨S65280, .i32⟩
  | 119 => ⟨S65280x1, .i32⟩
  | 120 => ⟨S_, .i32⟩
  | 121 => ⟨S65280, .i32⟩
  | 122 => ⟨S65536, .i32⟩
  | 123 => ⟨S256x256, .i32⟩
  | 124 => ⟨S255x255, .i32⟩
  | 125 => ⟨S255x255, .i32⟩
  | 126 => ⟨S_, .i32⟩
  | 127 => ⟨S255x255, .i32⟩
  | _ => ⟨S180x256x256, .f32⟩

abbrev hbmTy0_1 (i : Nat) : BufTy := match i % 128 with
  | 0 => ⟨S255x255, .i32⟩
  | 1 => ⟨S255x255, .i32⟩
  | 2 => ⟨S65025, .i32⟩
  | 3 => ⟨S_, .i32⟩
  | 4 => ⟨S65536, .i32⟩
  | 5 => ⟨S_, .i32⟩
  | 6 => ⟨S_, .i32⟩
  | 7 => ⟨S65025, .i32⟩
  | 8 => ⟨S65025, .i32⟩
  | 9 => ⟨S_, .i32⟩
  | 10 => ⟨S65025, .i32⟩
  | 11 => ⟨S65025, .i1⟩
  | 12 => ⟨S_, .i32⟩
  | 13 => ⟨S65025, .i32⟩
  | 14 => ⟨S65025, .i32⟩
  | 15 => ⟨S65025, .i32⟩
  | 16 => ⟨S65025x1, .i32⟩
  | 17 => ⟨S_, .i32⟩
  | 18 => ⟨S65025, .i32⟩
  | 19 => ⟨S65536, .i32⟩
  | 20 => ⟨S256x256, .i32⟩
  | 21 => ⟨S256x256x1, .i32⟩
  | 22 => ⟨S256x256x1, .i32⟩
  | 23 => ⟨S256x256x1, .i32⟩
  | 24 => ⟨S256x256x1, .i32⟩
  | 25 => ⟨S256x256x4, .i32⟩
  | 26 => ⟨S256x256x4, .f32⟩
  | 27 => ⟨S_, .i32⟩
  | 28 => ⟨S_, .f32⟩
  | 29 => ⟨S256x256, .f32⟩
  | 30 => ⟨S256x256x1, .f32⟩
  | 31 => ⟨S_, .f32⟩
  | 32 => ⟨S256x256x1, .f32⟩
  | 33 => ⟨S256x256x1, .f32⟩
  | 34 => ⟨S256x256x4, .f32⟩
  | 35 => ⟨S256x256x4, .f32⟩
  | 36 => ⟨S256x256x4, .f32⟩
  | 37 => ⟨S_, .f32⟩
  | 38 => ⟨S_, .f32⟩
  | 39 => ⟨S_, .f32⟩
  | 40 => ⟨S_, .f32⟩
  | 41 => ⟨S256x256, .f32⟩
  | 42 => ⟨S256x256, .f32⟩
  | 43 => ⟨S256x256, .f32⟩
  | 44 => ⟨S_, .f32⟩
  | 45 => ⟨S_, .i1⟩
  | 46 => ⟨S_, .f32⟩
  | 47 => ⟨S_, .f32⟩
  | 48 => ⟨S256x256, .f32⟩
  | 49 => ⟨S256x256, .f32⟩
  | 50 => ⟨S1x256x256, .f32⟩
  | 51 => ⟨S181x256x256, .f32⟩
  | _ => ⟨S180x256x256, .f32⟩

abbrev hbmTy (i : Nat) : BufTy := match i / 128 with
  | 0 => hbmTy0_0 i
  | 1 => hbmTy0_1 i
  | _ => ⟨S180x256x256, .f32⟩

abbrev bufTy : (tb : Table) → Fin (tcTables nBuf tb) → BufTy
  | .hbm, ⟨i, _⟩ => hbmTy i
  | _, _ => ⟨S180x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3 : Ref sig .tc := ⟨.hbm, 9, rfl⟩
abbrev main_c_3 : Ref sig .tc := ⟨.hbm, 10, rfl⟩
abbrev main_c_4 : Ref sig .tc := ⟨.hbm, 11, rfl⟩
abbrev main_v4 : Ref sig .tc := ⟨.hbm, 12, rfl⟩
abbrev main_c_5 : Ref sig .tc := ⟨.hbm, 13, rfl⟩
abbrev main_v5 : Ref sig .tc := ⟨.hbm, 14, rfl⟩
abbrev main_c_6 : Ref sig .tc := ⟨.hbm, 15, rfl⟩
abbrev main_c_7 : Ref sig .tc := ⟨.hbm, 16, rfl⟩
abbrev main_v6 : Ref sig .tc := ⟨.hbm, 17, rfl⟩
abbrev main_c_8 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_12 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_13 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_14 : Ref sig .tc := ⟨.hbm, 40, rfl⟩
abbrev main_c_15 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_16 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_17 : Ref sig .tc := ⟨.hbm, 56, rfl⟩
abbrev main_v30 : Ref sig .tc := ⟨.hbm, 57, rfl⟩
abbrev main_c_18 : Ref sig .tc := ⟨.hbm, 58, rfl⟩
abbrev main_call2_v0 : Ref sig .tc := ⟨.hbm, 59, rfl⟩
abbrev main_call2_v1 : Ref sig .tc := ⟨.hbm, 60, rfl⟩
abbrev main_v31 : Ref sig .tc := ⟨.hbm, 61, rfl⟩
abbrev main_c_19 : Ref sig .tc := ⟨.hbm, 62, rfl⟩
abbrev main_v32 : Ref sig .tc := ⟨.hbm, 63, rfl⟩
abbrev main_v33 : Ref sig .tc := ⟨.hbm, 64, rfl⟩
abbrev main_c_20 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_21 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_22 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_23 : Ref sig .tc := ⟨.hbm, 81, rfl⟩
abbrev main_v47 : Ref sig .tc := ⟨.hbm, 82, rfl⟩
abbrev main_c_24 : Ref sig .tc := ⟨.hbm, 83, rfl⟩
abbrev main_call3_v0 : Ref sig .tc := ⟨.hbm, 84, rfl⟩
abbrev main_call3_v1 : Ref sig .tc := ⟨.hbm, 85, rfl⟩
abbrev main_v48 : Ref sig .tc := ⟨.hbm, 86, rfl⟩
abbrev main_c_25 : Ref sig .tc := ⟨.hbm, 87, rfl⟩
abbrev main_v49 : Ref sig .tc := ⟨.hbm, 88, rfl⟩
abbrev main_v50 : Ref sig .tc := ⟨.hbm, 89, rfl⟩
abbrev main_c_26 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_27 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_28 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_29 : Ref sig .tc := ⟨.hbm, 106, rfl⟩
abbrev main_v64 : Ref sig .tc := ⟨.hbm, 107, rfl⟩
abbrev main_c_30 : Ref sig .tc := ⟨.hbm, 108, rfl⟩
abbrev main_call4_v0 : Ref sig .tc := ⟨.hbm, 109, rfl⟩
abbrev main_call4_v1 : Ref sig .tc := ⟨.hbm, 110, rfl⟩
abbrev main_v65 : Ref sig .tc := ⟨.hbm, 111, rfl⟩
abbrev main_c_31 : Ref sig .tc := ⟨.hbm, 112, rfl⟩
abbrev main_v66 : Ref sig .tc := ⟨.hbm, 113, rfl⟩
abbrev main_v67 : Ref sig .tc := ⟨.hbm, 114, rfl⟩
abbrev main_c_32 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_33 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_c_34 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_35 : Ref sig .tc := ⟨.hbm, 131, rfl⟩
abbrev main_v81 : Ref sig .tc := ⟨.hbm, 132, rfl⟩
abbrev main_c_36 : Ref sig .tc := ⟨.hbm, 133, rfl⟩
abbrev main_call5_v0 : Ref sig .tc := ⟨.hbm, 134, rfl⟩
abbrev main_call5_v1 : Ref sig .tc := ⟨.hbm, 135, rfl⟩
abbrev main_v82 : Ref sig .tc := ⟨.hbm, 136, rfl⟩
abbrev main_c_37 : Ref sig .tc := ⟨.hbm, 137, rfl⟩
abbrev main_v83 : Ref sig .tc := ⟨.hbm, 138, rfl⟩
abbrev main_v84 : Ref sig .tc := ⟨.hbm, 139, rfl⟩
abbrev main_c_38 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_c_39 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_c_40 : Ref sig .tc := ⟨.hbm, 155, rfl⟩
abbrev main_call6_cst : Ref sig .tc := ⟨.hbm, 156, rfl⟩
abbrev main_call6_v0 : Ref sig .tc := ⟨.hbm, 157, rfl⟩
abbrev main_call6_v1 : Ref sig .tc := ⟨.hbm, 158, rfl⟩
abbrev main_call6_cst_0 : Ref sig .tc := ⟨.hbm, 159, rfl⟩
abbrev main_call6_v2 : Ref sig .tc := ⟨.hbm, 160, rfl⟩
abbrev main_call6_v3 : Ref sig .tc := ⟨.hbm, 161, rfl⟩
abbrev main_call6_v4 : Ref sig .tc := ⟨.hbm, 162, rfl⟩
abbrev main_call6_v5 : Ref sig .tc := ⟨.hbm, 163, rfl⟩
abbrev main_call6_v6 : Ref sig .tc := ⟨.hbm, 164, rfl⟩
abbrev main_call6_v7 : Ref sig .tc := ⟨.hbm, 165, rfl⟩
abbrev main_call6_cst_1 : Ref sig .tc := ⟨.hbm, 166, rfl⟩
abbrev main_call6_v8 : Ref sig .tc := ⟨.hbm, 167, rfl⟩
abbrev main_call6_cst_2 : Ref sig .tc := ⟨.hbm, 168, rfl⟩
abbrev main_call6_v9 : Ref sig .tc := ⟨.hbm, 169, rfl⟩
abbrev main_call6_v10 : Ref sig .tc := ⟨.hbm, 170, rfl⟩
abbrev main_call6_v11 : Ref sig .tc := ⟨.hbm, 171, rfl⟩
abbrev main_call6_cst_3 : Ref sig .tc := ⟨.hbm, 172, rfl⟩
abbrev main_call6_v12 : Ref sig .tc := ⟨.hbm, 173, rfl⟩
abbrev main_call6_cst_4 : Ref sig .tc := ⟨.hbm, 174, rfl⟩
abbrev main_call6_call0_v0 : Ref sig .tc := ⟨.hbm, 175, rfl⟩
abbrev main_call6_call0_v1 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩

abbrev nD : Nat := 1
abbrev τ : Topo := Topo.v7x

variable {F : FTy → Type} [FloatOps F]
-- ==== Proof.Names.lean ====
/-
  Names for what the kernel's own copies touch: the image and the result in blocks of 36 planes, the two slots of the
  copy buffer, the two pairs of counters; and the equations by which the printed slices are these names.
-/
module

public import proofs.«01_k».proof.Proof.Gen.KernelIdeal.Launch
public import proofs.«01_k».proof.Proof.Gen.KernelIdeal.Skeleton
public import Idealize.ShloMosaic.Lib.Pipeline.Regions
public import Idealize.ShloMosaic.Lib.Ring
public import Idealize.ShloMosaic.Lib.Tactic

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The buffers -/

abbrev imgM : Memref sig .tc .hbm S180x256x256 .f32 := Memref.whole main_arg0
abbrev resM : Memref sig .tc .hbm S181x256x256 .f32 := Memref.whole main_v1
abbrev codeM : Memref sig .tc .vmem S2x256x256 .i8 := Memref.whole cc0_scratch0
abbrev turnM : Memref sig .tc .vmem S256x256 .bf16 := Memref.whole cc0_scratch1
abbrev cntM0 : Memref sig .tc .vmem S256x256 .f32 := Memref.whole cc0_scratch2
abbrev cntM1 : Memref sig .tc .vmem S256x256 .f32 := Memref.whole cc0_scratch3
abbrev cntM2 : Memref sig .tc .vmem S256x256 .f32 := Memref.whole cc0_scratch4
abbrev cntM3 : Memref sig .tc .vmem S256x256 .f32 := Memref.whole cc0_scratch5
abbrev bufM : Memref sig .tc .vmem S2x36x256x256 .f32 := Memref.whole cc0_scratch6
abbrev varM : Memref sig .tc .vmem S1x256x256 .f32 := Memref.whole cc0_scratch7

/-! ## Offsets -/

abbrev blkOff (b : Fin 5) : Fin 3 → Nat := ![36 * b.val, 0, 0]
abbrev slotOff (s : Fin 2) : Fin 4 → Nat := ![s.val, 0, 0, 0]
abbrev semOff (s : Fin 2) : Fin 1 → Nat := ![s.val]

theorem blkOff_img (b : Fin 5) : ∀ a, blkOff b a + S36x256x256.size a ≤ S180x256x256.size a := by
  have := b.isLt; intro a; fin_cases a
  · show 36 * b.val + 36 ≤ 180; omega
  · show 0 + 256 ≤ 256; omega
  · show 0 + 256 ≤ 256; omega
theorem blkOff_res (b : Fin 5) : ∀ a, blkOff b a + S36x256x256.size a ≤ S181x256x256.size a := by
  have := b.isLt; intro a; fin_cases a
  · show 36 * b.val + 36 ≤ 181; omega
  · show 0 + 256 ≤ 256; omega
  · show 0 + 256 ≤ 256; omega
theorem lastOff_res : ∀ a, (![180, 0, 0] : Fin 3 → Nat) a + S1x256x256.size a ≤ S181x256x256.size a := by decide
theorem slotOff_inb (s : Fin 2) : ∀ a, slotOff s a + S1x36x256x256.size a ≤ S2x36x256x256.size a := by
  have := s.isLt; intro a; fin_cases a
  · show s.val + 1 ≤ 2; omega
  · show 0 + 36 ≤ 36; omega
  · show 0 + 256 ≤ 256; omega
  · show 0 + 256 ≤ 256; omega
theorem semOff_inb (s : Fin 2) : ∀ a, semOff s a + S1.size a ≤ S2.size a := by
  have := s.isLt; intro a; fin_cases a; show s.val + 1 ≤ 2; omega

/-- Planes `36 b … 36 b + 35` of the image. -/
def grp (b : Fin 5) : Memref sig .tc .hbm S36x256x256 .f32 :=
  imgM.slice (Rect.unit (s := S180x256x256) (blkOff b) S36x256x256.size (blkOff_img b)) (fun _ => rfl)
/-- The same planes of the result. -/
def blk (b : Fin 5) : Memref sig .tc .hbm S36x256x256 .f32 :=
  resM.slice (Rect.unit (s := S181x256x256) (blkOff b) S36x256x256.size (blkOff_res b)) (fun _ => rfl)
/-- The result's last plane. -/
def lastP : Memref sig .tc .hbm S1x256x256 .f32 :=
  resM.slice (Rect.unit (s := S181x256x256) ![180, 0, 0] S1x256x256.size lastOff_res) (fun _ => rfl)
/-- Slot `s` of the copy buffer. -/
def rslot (s : Fin 2) : Memref sig .tc .vmem S36x256x256 .f32 :=
  (bufM.slice (Rect.unit (s := S2x36x256x256) (slotOff s) S1x36x256x256.size (slotOff_inb s)) (fun _ => rfl)).squeeze S36x256x256 squeezes_S1x36x256x256_S36x256x256
/-- The counter of the copies into slot `s`. -/
def inC (s : Fin 2) : DmaSems sig S_ := (cc0_scratch8.slice (Rect.unit (s := S2) (semOff s) S1.size (semOff_inb s))).squeeze S_ squeezes_S1_S_
/-- The counter of the copies out of slot `s`. -/
def outC (s : Fin 2) : DmaSems sig S_ := (cc0_scratch9.slice (Rect.unit (s := S2) (semOff s) S1.size (semOff_inb s))).squeeze S_ squeezes_S1_S_

instance (s : Fin 2) : ClosedOff (slotOff s) := ⟨slotOff s, rfl⟩
instance (b : Fin 5) : ClosedOff (blkOff b) := ⟨blkOff b, rfl⟩
instance (s : Fin 2) : ClosedOff (semOff s) := ⟨semOff s, rfl⟩

/-! ## The offsets the body computes at point `i`, in closed form -/

/-- The number of the point. -/
abbrev pt (i : grid0.Coords) : ℕ := (i 0).val

section Offsets

theorem off1_eq : ∀ i : grid0.Coords, 1 ≤ pt i → k0_off1 i = semOff (Ring.sl 2 (pt i + 1)) := by decide +kernel
theorem off2_eq : ∀ i : grid0.Coords, 1 ≤ pt i → k0_off2 i = blkOff (Ring.bk 5 (pt i - 1)) := by decide +kernel
theorem off3_eq : ∀ i : grid0.Coords, 1 ≤ pt i → k0_off3 i = slotOff (Ring.sl 2 (pt i + 1)) := by decide +kernel
theorem off4_eq : ∀ i : grid0.Coords, pt i ≤ 3 → k0_off4 i = semOff (Ring.sl 2 (pt i + 1)) := by decide +kernel
theorem off5_eq : ∀ i : grid0.Coords, pt i ≤ 3 → k0_off5 i = slotOff (Ring.sl 2 (pt i + 1)) := by decide +kernel
theorem off6_eq : ∀ i : grid0.Coords, pt i ≤ 3 → k0_off6 i = blkOff (Ring.bk 5 (pt i + 1)) := by decide +kernel
theorem off7_eq : ∀ i : grid0.Coords, k0_off7 i = semOff (Ring.sl 2 (pt i)) := by decide +kernel
theorem off8_eq : ∀ i : grid0.Coords, k0_off8 i = slotOff (Ring.sl 2 (pt i)) := by decide +kernel
theorem off9_eq : ∀ i : grid0.Coords, k0_off9 i = blkOff (Ring.bk 5 (pt i)) := by decide +kernel
theorem off10_eq : ∀ i : grid0.Coords, k0_off10 i = blkOff (Ring.bk 5 (pt i)) := by decide +kernel

end Offsets

/-! ## The printed slices are these names -/

section Canon

private theorem inC_congr {off : Fin 1 → Nat} {s : Fin 2} (e : off = semOff s) (hh) :
    (cc0_scratch8.slice (Rect.unit (s := S2) off S1.size hh)).squeeze S_ squeezes_S1_S_ = inC s :=
  congrArg (fun A : DmaSems sig S1 => A.squeeze S_ squeezes_S1_S_) (SemArray.slice_unit_congr _ e _ _)
private theorem outC_congr {off : Fin 1 → Nat} {s : Fin 2} (e : off = semOff s) (hh) :
    (cc0_scratch9.slice (Rect.unit (s := S2) off S1.size hh)).squeeze S_ squeezes_S1_S_ = outC s :=
  congrArg (fun A : DmaSems sig S1 => A.squeeze S_ squeezes_S1_S_) (SemArray.slice_unit_congr _ e _ _)
private theorem rslot_congr {off : Fin 4 → Nat} {s : Fin 2} (e : off = slotOff s) (hh hs) :
    (bufM.slice (Rect.unit (s := S2x36x256x256) off S1x36x256x256.size hh) hs).squeeze S36x256x256 squeezes_S1x36x256x256_S36x256x256 = rslot s :=
  congrArg (fun M : Memref sig .tc .vmem S1x36x256x256 .f32 => M.squeeze S36x256x256 squeezes_S1x36x256x256_S36x256x256) (Memref.slice_unit_congr _ e _ _ _ _)
private theorem grp_congr {off : Fin 3 → Nat} {b : Fin 5} (e : off = blkOff b) (hh hs) :
    imgM.slice (Rect.unit (s := S180x256x256) off S36x256x256.size hh) hs = grp b :=
  Memref.slice_unit_congr _ e _ _ hs (fun _ => rfl)
private theorem blk_congr {off : Fin 3 → Nat} {b : Fin 5} (e : off = blkOff b) (hh hs) :
    resM.slice (Rect.unit (s := S181x256x256) off S36x256x256.size hh) hs = blk b :=
  Memref.slice_unit_congr _ e _ _ hs (fun _ => rfl)

@[sl_canon] theorem inC_0 (hh) : (cc0_scratch8.slice (Rect.unit (s := S2) ![0] S1.size hh)).squeeze S_ squeezes_S1_S_ = inC 0 := inC_congr (by decide) _
@[sl_canon] theorem outC_0 (hh) : (cc0_scratch9.slice (Rect.unit (s := S2) ![0] S1.size hh)).squeeze S_ squeezes_S1_S_ = outC 0 := outC_congr (by decide) _
@[sl_canon] theorem rslot_0 (hh hs) : (bufM.slice (Rect.unit (s := S2x36x256x256) ![0, 0, 0, 0] S1x36x256x256.size hh) hs).squeeze S36x256x256 squeezes_S1x36x256x256_S36x256x256 = rslot 0 := rslot_congr (by decide) _ _
@[sl_canon] theorem grp_0 (hh hs) : imgM.slice (Rect.unit (s := S180x256x256) ![0, 0, 0] S36x256x256.size hh) hs = grp 0 := grp_congr (by decide) _ _
@[sl_canon] theorem blk_4 (hh hs) : resM.slice (Rect.unit (s := S181x256x256) ![144, 0, 0] S36x256x256.size hh) hs = blk 4 := blk_congr (by decide) _ _
@[sl_canon] theorem lastP_lit (hh hs) : resM.slice (Rect.unit (s := S181x256x256) ![180, 0, 0] S1x256x256.size hh) hs = lastP := rfl

variable (i : grid0.Coords)

/-! ### At the points 1, 2 and 3 -/

@[sl_canon] theorem outC_prev (h1 : 1 ≤ pt i) (h3 : pt i ≤ 3) (hh) : (cc0_scratch9.slice (Rect.unit (s := S2) (k0_off1 i) S1.size hh)).squeeze S_ squeezes_S1_S_ = outC (Ring.sl 2 (pt i + 1)) := outC_congr (off1_eq i h1) _
@[sl_canon] theorem blk_prev (h1 : 1 ≤ pt i) (h3 : pt i ≤ 3) (hh hs) : resM.slice (Rect.unit (s := S181x256x256) (k0_off2 i) S36x256x256.size hh) hs = blk (Ring.bk 5 (pt i - 1)) := blk_congr (off2_eq i h1) _ _
@[sl_canon] theorem rslot_prev (h1 : 1 ≤ pt i) (h3 : pt i ≤ 3) (hh hs) : (bufM.slice (Rect.unit (s := S2x36x256x256) (k0_off3 i) S1x36x256x256.size hh) hs).squeeze S36x256x256 squeezes_S1x36x256x256_S36x256x256 = rslot (Ring.sl 2 (pt i + 1)) := rslot_congr (off3_eq i h1) _ _
@[sl_canon] theorem inC_next (h1 : 1 ≤ pt i) (h3 : pt i ≤ 3) (hh) : (cc0_scratch8.slice (Rect.unit (s := S2) (k0_off4 i) S1.size hh)).squeeze S_ squeezes_S1_S_ = inC (Ring.sl 2 (pt i + 1)) := inC_congr (off4_eq i h3) _
@[sl_canon] theorem rslot_next (h1 : 1 ≤ pt i) (h3 : pt i ≤ 3) (hh hs) : (bufM.slice (Rect.unit (s := S2x36x256x256) (k0_off5 i) S1x36x256x256.size hh) hs).squeeze S36x256x256 squeezes_S1x36x256x256_S36x256x256 = rslot (Ring.sl 2 (pt i + 1)) := rslot_congr (off5_eq i h3) _ _
@[sl_canon] theorem grp_next (h1 : 1 ≤ pt i) (h3 : pt i ≤ 3) (hh hs) : imgM.slice (Rect.unit (s := S180x256x256) (k0_off6 i) S36x256x256.size hh) hs = grp (Ring.bk 5 (pt i + 1)) := grp_congr (off6_eq i h3) _ _
@[sl_canon] theorem inC_here (h1 : 1 ≤ pt i) (h3 : pt i ≤ 3) (hh) : (cc0_scratch8.slice (Rect.unit (s := S2) (k0_off7 i) S1.size hh)).squeeze S_ squeezes_S1_S_ = inC (Ring.sl 2 (pt i)) := inC_congr (off7_eq i) _
@[sl_canon] theorem outC_here (h1 : 1 ≤ pt i) (h3 : pt i ≤ 3) (hh) : (cc0_scratch9.slice (Rect.unit (s := S2) (k0_off7 i) S1.size hh)).squeeze S_ squeezes_S1_S_ = outC (Ring.sl 2 (pt i)) := outC_congr (off7_eq i) _
@[sl_canon] theorem rslot_here (h1 : 1 ≤ pt i) (h3 : pt i ≤ 3) (hh hs) : (bufM.slice (Rect.unit (s := S2x36x256x256) (k0_off8 i) S1x36x256x256.size hh) hs).squeeze S36x256x256 squeezes_S1x36x256x256_S36x256x256 = rslot (Ring.sl 2 (pt i)) := rslot_congr (off8_eq i) _ _
@[sl_canon] theorem grp_here (h1 : 1 ≤ pt i) (h3 : pt i ≤ 3) (hh hs) : imgM.slice (Rect.unit (s := S180x256x256) (k0_off9 i) S36x256x256.size hh) hs = grp (Ring.bk 5 (pt i)) := grp_congr (off9_eq i) _ _
@[sl_canon] theorem blk_here (h1 : 1 ≤ pt i) (h3 : pt i ≤ 3) (hh hs) : resM.slice (Rect.unit (s := S181x256x256) (k0_off10 i) S36x256x256.size hh) hs = blk (Ring.bk 5 (pt i)) := blk_congr (off10_eq i) _ _

/-! ### At point 0 -/

@[sl_canon] theorem inC_next_first (h : pt i = 0) (hh) : (cc0_scratch8.slice (Rect.unit (s := S2) (k0_off4 i) S1.size hh)).squeeze S_ squeezes_S1_S_ = inC 1 := inC_congr ((off4_eq i (by omega)).trans (by rw [h]; decide)) _
@[sl_canon] theorem rslot_next_first (h : pt i = 0) (hh hs) : (bufM.slice (Rect.unit (s := S2x36x256x256) (k0_off5 i) S1x36x256x256.size hh) hs).squeeze S36x256x256 squeezes_S1x36x256x256_S36x256x256 = rslot 1 := rslot_congr ((off5_eq i (by omega)).trans (by rw [h]; decide)) _ _
@[sl_canon] theorem grp_next_first (h : pt i = 0) (hh hs) : imgM.slice (Rect.unit (s := S180x256x256) (k0_off6 i) S36x256x256.size hh) hs = grp 1 := grp_congr ((off6_eq i (by omega)).trans (by rw [h]; decide)) _ _
@[sl_canon] theorem inC_here_first (h : pt i = 0) (hh) : (cc0_scratch8.slice (Rect.unit (s := S2) (k0_off7 i) S1.size hh)).squeeze S_ squeezes_S1_S_ = inC 0 := inC_congr ((off7_eq i).trans (by rw [h]; decide)) _
@[sl_canon] theorem outC_here_first (h : pt i = 0) (hh) : (cc0_scratch9.slice (Rect.unit (s := S2) (k0_off7 i) S1.size hh)).squeeze S_ squeezes_S1_S_ = outC 0 := outC_congr ((off7_eq i).trans (by rw [h]; decide)) _
@[sl_canon] theorem rslot_here_first (h : pt i = 0) (hh hs) : (bufM.slice (Rect.unit (s := S2x36x256x256) (k0_off8 i) S1x36x256x256.size hh) hs).squeeze S36x256x256 squeezes_S1x36x256x256_S36x256x256 = rslot 0 := rslot_congr ((off8_eq i).trans (by rw [h]; decide)) _ _
@[sl_canon] theorem grp_here_first (h : pt i = 0) (hh hs) : imgM.slice (Rect.unit (s := S180x256x256) (k0_off9 i) S36x256x256.size hh) hs = grp 0 := grp_congr ((off9_eq i).trans (by rw [h]; decide)) _ _
@[sl_canon] theorem blk_here_first (h : pt i = 0) (hh hs) : resM.slice (Rect.unit (s := S181x256x256) (k0_off10 i) S36x256x256.size hh) hs = blk 0 := blk_congr ((off10_eq i).trans (by rw [h]; decide)) _ _

/-! ### At point 4 -/

@[sl_canon] theorem outC_prev_last (h : pt i = 4) (hh) : (cc0_scratch9.slice (Rect.unit (s := S2) (k0_off1 i) S1.size hh)).squeeze S_ squeezes_S1_S_ = outC 1 := outC_congr ((off1_eq i (by omega)).trans (by rw [h]; decide)) _
@[sl_canon] theorem blk_prev_last (h : pt i = 4) (hh hs) : resM.slice (Rect.unit (s := S181x256x256) (k0_off2 i) S36x256x256.size hh) hs = blk 3 := blk_congr ((off2_eq i (by omega)).trans (by rw [h]; decide)) _ _
@[sl_canon] theorem rslot_prev_last (h : pt i = 4) (hh hs) : (bufM.slice (Rect.unit (s := S2x36x256x256) (k0_off3 i) S1x36x256x256.size hh) hs).squeeze S36x256x256 squeezes_S1x36x256x256_S36x256x256 = rslot 1 := rslot_congr ((off3_eq i (by omega)).trans (by rw [h]; decide)) _ _
@[sl_canon] theorem inC_here_last (h : pt i = 4) (hh) : (cc0_scratch8.slice (Rect.unit (s := S2) (k0_off7 i) S1.size hh)).squeeze S_ squeezes_S1_S_ = inC 0 := inC_congr ((off7_eq i).trans (by rw [h]; decide)) _
@[sl_canon] theorem outC_here_last (h : pt i = 4) (hh) : (cc0_scratch9.slice (Rect.unit (s := S2) (k0_off7 i) S1.size hh)).squeeze S_ squeezes_S1_S_ = outC 0 := outC_congr ((off7_eq i).trans (by rw [h]; decide)) _
@[sl_canon] theorem rslot_here_last (h : pt i = 4) (hh hs) : (bufM.slice (Rect.unit (s := S2x36x256x256) (k0_off8 i) S1x36x256x256.size hh) hs).squeeze S36x256x256 squeezes_S1x36x256x256_S36x256x256 = rslot 0 := rslot_congr ((off8_eq i).trans (by rw [h]; decide)) _ _
@[sl_canon] theorem grp_here_last (h : pt i = 4) (hh hs) : imgM.slice (Rect.unit (s := S180x256x256) (k0_off9 i) S36x256x256.size hh) hs = grp 4 := grp_congr ((off9_eq i).trans (by rw [h]; decide)) _ _
@[sl_canon] theorem blk_here_last (h : pt i = 4) (hh hs) : resM.slice (Rect.unit (s := S181x256x256) (k0_off10 i) S36x256x256.size hh) hs = blk 4 := blk_congr ((off10_eq i).trans (by rw [h]; decide)) _ _

end Canon

/-! ## The branches: which points take them -/

theorem first_iff : ∀ i : grid0.Coords, Scalar.cmpi .ne (Scalar.extui (Scalar.cmpi .eq (BitVec.ofNat 32 (i 0).val) 0#32) : BitVec 32) 0#32 = 1#1 ↔ pt i = 0 := by decide +kernel
theorem last_iff : ∀ i : grid0.Coords, Scalar.cmpi .ne (Scalar.extui (Scalar.cmpi .eq (BitVec.ofNat 32 (i 0).val) 4#32) : BitVec 32) 0#32 = 1#1 ↔ pt i = 4 := by decide +kernel
theorem cond2_iff : ∀ i : grid0.Coords, k0_cond2 i = 1#1 ↔ 1 ≤ pt i := by decide +kernel
theorem cond3_iff : ∀ i : grid0.Coords, k0_cond3 i = 1#1 ↔ pt i ≤ 3 := by decide +kernel
theorem cond5_iff : ∀ i : grid0.Coords, k0_cond5 i = 1#1 ↔ pt i ≤ 3 := by decide +kernel

end Cert.KernelIdeal.Run

end
-- ==== Proof.Values.lean ====
/-
  What the kernel computes, as functions of the words it reads: the codes of a band, the counts after each chunk of
  64 rows, the last plane.
-/
module

public import proofs.«01_k».proof.Proof.Names
public import Idealize.ShloMosaic.Lib.VecWindow
public import Idealize.ShloMosaic.Lib.ValueIdxCore

@[expose] public section

noncomputable section

namespace Cert.KernelIdeal.Run

open Cert.KernelIdeal Cert.KernelIdeal.Gen
open Idealize.ShloMosaic

variable {F : FTy → Type} [FloatOps F]

/-- The code buffer for a band: plane 0 holds the codes, plane 1 the codes with the rows shifted up cyclically. -/
def codesV (band : S1x256x256.Idx → F .f32) : S2x256x256.Idx → BitVec 8 := fun x =>
  if (x 0).val = 0 then k0_pay5 band (ValueIdx.ix3 0 (x 1) (x 2)) else k0_pay6 band (ValueIdx.ix3 0 (x 1) (x 2))

theorem rows_inb (p : Fin 2) (n : Fin 4) : ∀ a, (![p.val, 64 * n.val, 0] : Fin 3 → ℕ) a + S1x64x256.size a ≤ S2x256x256.size a := by
  revert p n; decide

/-- Rows `64 n … 64 n + 63` of plane `p` of the code buffer. -/
def rowsOf (C : S2x256x256.Idx → BitVec 8) (p : Fin 2) (n : Fin 4) : S1x64x256.Idx → BitVec 8 :=
  VecWindow.window C ![p.val, 64 * n.val, 0] S1x64x256.size (rows_inb p n)

/-- The first plane of the code buffer. -/
def planeOf (C : S2x256x256.Idx → BitVec 8) : S1x256x256.Idx → BitVec 8 :=
  VecWindow.window C ![0, 0, 0] S1x256x256.size inb_S2x256x256_S1x256x256_0_0_0

/-- The four counts after the rows `r` of plane 0 and `r'` of plane 1. -/
def step0 (r : S1x64x256.Idx → BitVec 8) (a : S256x256.Idx → F .f32) : S256x256.Idx → F .f32 := k0_pay13 (F := F) r a
def step1 (r r' : S1x64x256.Idx → BitVec 8) (a : S256x256.Idx → F .f32) : S256x256.Idx → F .f32 :=
  k0_pay1 (k0_pay12 (F := F) r) a (k0_pay14 (F := F) r')
def step2 (r r' : S1x64x256.Idx → BitVec 8) (a : S256x256.Idx → F .f32) : S256x256.Idx → F .f32 :=
  k0_pay2 k0_pay8 (k0_pay10 (F := F) r') (k0_pay12 (F := F) r) a
def step3 (r r' : S1x64x256.Idx → BitVec 8) (a : S256x256.Idx → F .f32) : S256x256.Idx → F .f32 :=
  k0_pay3 k0_pay8 (k0_pay11 (F := F) r') (k0_pay12 (F := F) r) a

/-- The chunk of point `n`, for the points that have one. -/
def chunk (n : ℕ) : Fin 4 := Fin.ofNat 4 n

theorem off11_eq : ∀ i : grid0.Coords, pt i ≤ 3 → k0_off11 i = ![(0 : Fin 2).val, 64 * (chunk (pt i)).val, 0] := by decide +kernel
theorem off12_eq : ∀ i : grid0.Coords, pt i ≤ 3 → k0_off12 i = ![(1 : Fin 2).val, 64 * (chunk (pt i)).val, 0] := by decide +kernel

/-- The four counts before point `n`, over a code buffer. -/
def cnt0 (C : S2x256x256.Idx → BitVec 8) : ℕ → S256x256.Idx → F .f32
  | 0 => k0_pay32 (Scalar.ofBits .f32 0x00000000#32)
  | n + 1 => step0 (rowsOf C 0 (chunk n)) (cnt0 C n)
def cnt1 (C : S2x256x256.Idx → BitVec 8) : ℕ → S256x256.Idx → F .f32
  | 0 => k0_pay33
  | n + 1 => step1 (rowsOf C 0 (chunk n)) (rowsOf C 1 (chunk n)) (cnt1 C n)
def cnt2 (C : S2x256x256.Idx → BitVec 8) : ℕ → S256x256.Idx → F .f32
  | 0 => k0_pay34
  | n + 1 => step2 (rowsOf C 0 (chunk n)) (rowsOf C 1 (chunk n)) (cnt2 C n)
def cnt3 (C : S2x256x256.Idx → BitVec 8) : ℕ → S256x256.Idx → F .f32
  | 0 => k0_pay35
  | n + 1 => step3 (rowsOf C 0 (chunk n)) (rowsOf C 1 (chunk n)) (cnt3 C n)

/-- Row 0 and row 255 of the turned codes. -/
def turn0 (T : S256x256.Idx → F .bf16) : S1x256.Idx → F .bf16 := VecWindow.window T ![0, 0] S1x256.size inb_S256x256_S1x256_0_0
def turn255 (T : S256x256.Idx → F .bf16) : S1x256.Idx → F .bf16 := VecWindow.window T ![255, 0] S1x256.size inb_S256x256_S1x256_255_0

/-- The last plane, from plane 0 of the codes, rows 0 and 255 of the turned codes and the four counts. -/
def finV (p : S1x256x256.Idx → BitVec 8) (u w : S1x256.Idx → F .bf16) (a0 a1 a2 a3 : S256x256.Idx → F .f32) : S1x256x256.Idx → F .f32 :=
  k0_pay31 (k0_pay19 p) (k0_pay22 p) (k0_pay24 u k0_pay17 (k0_pay23 w) (Scalar.ofBits .bf16 0x3F80#16))
    (k0_pay25 u w k0_pay17 (k0_pay18 p) (k0_pay21 p)) (k0_pay26 (k0_pay16 p) k0_pay17 (k0_pay20 p)) (k0_pay27 u k0_pay17)
    (k0_pay28 w k0_pay17) k0_pay29 k0_pay30 a0 a1 a2 a3

/-- The last plane as a function of the band. -/
def lastV (band : S1x256x256.Idx → F .f32) : S1x256x256.Idx → F .f32 :=
  finV (planeOf (codesV band)) (turn0 (k0_pay7 band)) (turn255 (k0_pay7 band))
    (cnt0 (codesV band) 4) (cnt1 (codesV band) 4) (cnt2 (codesV band) 4) (cnt3 (codesV band) 4)

end Cert.KernelIdeal.Run

end
-- ==== Proof.Step.lean ====
module

public import proofs.«01_k».proof.Proof.Values
public import Idealize.ShloMosaic.Lib.Pipeline.TableIdle

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces

variable (c : Dev nD) (q : PosShare TreeShare)

/-- A counter at zero. -/
abbrev inP (s : Fin 2) : sProp 𝕄 := semVal ((c : Thread nD τ), SemLoc.dma (inC s).sem) 0
abbrev outP (s : Fin 2) : sProp 𝕄 := semVal ((c : Thread nD τ), SemLoc.dma (outC s).sem) 0
/-- Slot `s` held at `f`. -/
abbrev slotP (s : Fin 2) (f : Buf (Elt F) ((rslot s).view.loc (c : Thread nD τ))) : sProp 𝕄 :=
  (rslot s).view.loc (c : Thread nD τ) ↦[(rslot s).view.set]{fullShare} f
/-- Half of block `b` of the image, held at the image. -/
abbrev homeP (X : Buf (Elt F) (imgM.view.loc (c : Thread nD τ))) (b : Fin 5) : sProp 𝕄 :=
  (grp b).view.loc (c : Thread nD τ) ↦[(grp b).view.set]{q} X
/-- Block `b` of the result, held at `g`. -/
abbrev blkP (b : Fin 5) (g : Buf (Elt F) ((blk b).view.loc (c : Thread nD τ))) : sProp 𝕄 :=
  (blk b).view.loc (c : Thread nD τ) ↦[(blk b).view.set]{fullShare} g

/-- The words of block `b` of the image. -/
abbrev planes (X : Buf (Elt F) (imgM.view.loc (c : Thread nD τ))) (b : Fin 5) : S36x256x256.Idx → Elt F .f32 :=
  ReadAs.same.apply ((grp b).view.read (Elt F) X)
/-- Slot `s` after block `b` of the image has been copied in, over `f`. -/
abbrev filled (X : Buf (Elt F) (imgM.view.loc (c : Thread nD τ))) (s : Fin 2) (b : Fin 5) (f : Buf (Elt F) ((rslot s).view.loc (c : Thread nD τ))) :
    Buf (Elt F) ((rslot s).view.loc (c : Thread nD τ)) :=
  (rslot s).view.writes (Elt F) f [⟨Rect.whole S36x256x256, planes c X b⟩]
/-- Block `b` of the image on its way into slot `s`. -/
abbrev inF (X : Buf (Elt F) (imgM.view.loc (c : Thread nD τ))) (s : Fin 2) (b : Fin 5) (f : Buf (Elt F) ((rslot s).view.loc (c : Thread nD τ))) : sProp 𝕄 :=
  Transfers.Flight countersEmb (c : Thread nD τ) (SemLoc.dma (inC s).sem) () 294912 iprop(slotP c s (filled c X s b f) ∗ homeP c q X b)
/-- Slot `s`, at `f`, on its way out to block `b` of the result, held at `g`. -/
abbrev outF (s : Fin 2) (b : Fin 5) (f : Buf (Elt F) ((rslot s).view.loc (c : Thread nD τ))) (g : Buf (Elt F) ((blk b).view.loc (c : Thread nD τ))) : sProp 𝕄 :=
  Transfers.Flight countersEmb (c : Thread nD τ) (SemLoc.dma (outC s).sem) () 294912 iprop(blkP c b g ∗ slotP c s f)

end Pieces

/-- The body on the buffers it is called with, the staging buffer of the window a variable. -/
abbrev bodyG (i : grid0.Coords) (arg2 : Memref sig .tc .vmem S1x256x256 .f32) (harg2 : arg2.IsWhole) : Prog (TpuEff nD τ sig (Elt F) Λ₀ .tc) PUnit :=
  cc0_glcm_append_fused i (Memref.whole main_v0) (Memref.isWhole_whole _) arg2 harg2 imgM (Memref.isWhole_whole _) resM (Memref.isWhole_whole _)
    codeM (Memref.isWhole_whole _) turnM (Memref.isWhole_whole _) cntM0 (Memref.isWhole_whole _) cntM1 (Memref.isWhole_whole _) cntM2 (Memref.isWhole_whole _) cntM3 (Memref.isWhole_whole _)
    bufM (Memref.isWhole_whole _) varM (Memref.isWhole_whole _) cc0_scratch8 cc0_scratch9 cc0_scratch10

/-- Some waits of the thread are recorded. -/
abbrev someW (c : Dev nD) : sProp 𝕄 := iprop(∃ W : Waits sig Unit, owes (c : Thread nD τ) 0 W)

/-- Block `b` of the result after slot contents that read the image's block have landed, over `g`. -/
abbrev landed (c : Dev nD) (X : Buf (Elt F) (imgM.view.loc (c : Thread nD τ))) (b : Fin 5) (g : Buf (Elt F) ((blk b).view.loc (c : Thread nD τ))) :
    Buf (Elt F) ((blk b).view.loc (c : Thread nD τ)) :=
  (blk b).view.writes (Elt F) g [⟨Rect.whole S36x256x256, planes c X b⟩]

/-- A memref held at contents that read `X` is owned at `X`. -/
theorem owns_of {c : Thread nD τ} {sp : Space} {sh : Shape} {e : EltTy} {m : Memref sig c.2.kind sp sh e} {q : PosShare TreeShare}
    {f : Buf (Elt F) (m.view.loc c)} {Y : sh.Idx → Elt F e} (h : m.view.read (Elt F) f = Y) :
    (m.view.loc c ↦[m.view.set]{q} f : sProp 𝕄) ⊢ owns c m q Y := by
  unfold owns; iintro H; iexists f; isplitr; · ipureintro; exact h
  iexact H

/-- The two stores into the code buffer leave the codes. -/
theorem read_codes (f : codeM.view.ty.Contents (Elt F)) (band : S1x256x256.Idx → F .f32) :
    codeM.view.read (Elt F) (codeM.view.writes (Elt F) f
      [⟨Rect.unit (s := S2x256x256) ![1, 0, 0] S1x256x256.size inb_S2x256x256_S1x256x256_1_0_0, k0_pay6 band⟩,
       ⟨Rect.unit (s := S2x256x256) ![0, 0, 0] S1x256x256.size inb_S2x256x256_S1x256x256_0_0_0, k0_pay5 band⟩]) = codesV band := by
  funext y
  have hy0 : (y 0).val < 2 := (y 0).isLt
  have hy1 : (y 1).val < 256 := (y 1).isLt
  have hy2 : (y 2).val < 256 := (y 2).isLt
  rw [View.read_writes_cons_unit _ _ _ _ _ y rfl]
  by_cases h : (y 0).val = 0
  · rw [dif_neg (fun H => by have := (H 0).1; simp at this; omega), View.read_writes_cons_unit _ _ _ _ _ y rfl, dif_pos]
    · unfold codesV; rw [if_pos h]
      refine congrArg (k0_pay5 band) (funext fun a => ?_)
      fin_cases a
      · exact Fin.ext (by show (y 0).val - 0 = 0; omega)
      · rfl
      · rfl
    · intro a; fin_cases a
      · exact ⟨Nat.zero_le _, by show (y 0).val < 0 + 1; omega⟩
      · exact ⟨Nat.zero_le _, by show (y 1).val < 0 + 256; omega⟩
      · exact ⟨Nat.zero_le _, by show (y 2).val < 0 + 256; omega⟩
  · rw [dif_pos]
    · unfold codesV; rw [if_neg h]
      refine congrArg (k0_pay6 band) (funext fun a => ?_)
      fin_cases a
      · exact Fin.ext (by show (y 0).val - 1 = 0; omega)
      · rfl
      · rfl
    · intro a; fin_cases a
      · exact ⟨by show 1 ≤ (y 0).val; omega, by show (y 0).val < 1 + 1; omega⟩
      · exact ⟨Nat.zero_le _, by show (y 1).val < 0 + 256; omega⟩
      · exact ⟨Nat.zero_le _, by show (y 2).val < 0 + 256; omega⟩

/-- The points 1, 2 and 3. -/
theorem mid (c : Dev nD) (q : PosShare TreeShare) (i : grid0.Coords) (h1 : 1 ≤ pt i) (h3 : pt i ≤ 3)
    (arg2 : Memref sig .tc .vmem S1x256x256 .f32) (harg2 : arg2.IsWhole)
    (X : Buf (Elt F) (imgM.view.loc (c : Thread nD τ)))
    (f0 : Buf (Elt F) ((rslot (Ring.sl 2 (pt i))).view.loc (c : Thread nD τ)))
    (fp : Buf (Elt F) ((rslot (Ring.sl 2 (pt i + 1))).view.loc (c : Thread nD τ)))
    (gp : Buf (Elt F) ((blk (Ring.bk 5 (pt i - 1))).view.loc (c : Thread nD τ)))
    (gn : Buf (Elt F) ((blk (Ring.bk 5 (pt i))).view.loc (c : Thread nD τ)))
    (C : S2x256x256.Idx → BitVec 8) (a0 a1 a2 a3 : S256x256.Idx → F .f32)
    (W : Waits sig Unit) (Q : PUnit → sProp 𝕄) :
    iprop(owes (c : Thread nD τ) 0 W
      ∗ inF c q X (Ring.sl 2 (pt i)) (Ring.bk 5 (pt i)) f0 ∗ inP c (Ring.sl 2 (pt i + 1))
      ∗ outF c (Ring.sl 2 (pt i + 1)) (Ring.bk 5 (pt i - 1)) fp gp ∗ outP c (Ring.sl 2 (pt i))
      ∗ homeP c q X (Ring.bk 5 (pt i + 1)) ∗ blkP c (Ring.bk 5 (pt i)) gn
      ∗ owns (c : Thread nD τ) codeM fullShare C
      ∗ owns (c : Thread nD τ) cntM0 fullShare a0 ∗ owns (c : Thread nD τ) cntM1 fullShare a1
      ∗ owns (c : Thread nD τ) cntM2 fullShare a2 ∗ owns (c : Thread nD τ) cntM3 fullShare a3
      ∗ ((someW c
          ∗ inF c q X (Ring.sl 2 (pt i + 1)) (Ring.bk 5 (pt i + 1)) fp ∗ inP c (Ring.sl 2 (pt i))
          ∗ outF c (Ring.sl 2 (pt i)) (Ring.bk 5 (pt i)) (filled c X (Ring.sl 2 (pt i)) (Ring.bk 5 (pt i)) f0) (landed c X (Ring.bk 5 (pt i)) gn)
          ∗ outP c (Ring.sl 2 (pt i + 1))
          ∗ homeP c q X (Ring.bk 5 (pt i)) ∗ blkP c (Ring.bk 5 (pt i - 1)) gp
          ∗ owns (c : Thread nD τ) codeM fullShare C
          ∗ owns (c : Thread nD τ) cntM0 fullShare (step0 (rowsOf C 0 (chunk (pt i))) a0)
          ∗ owns (c : Thread nD τ) cntM1 fullShare (step1 (rowsOf C 0 (chunk (pt i))) (rowsOf C 1 (chunk (pt i))) a1)
          ∗ owns (c : Thread nD τ) cntM2 fullShare (step2 (rowsOf C 0 (chunk (pt i))) (rowsOf C 1 (chunk (pt i))) a2)
          ∗ owns (c : Thread nD τ) cntM3 fullShare (step3 (rowsOf C 0 (chunk (pt i))) (rowsOf C 1 (chunk (pt i))) a3)) -∗ Q ⟨⟩))
      ⊢ wp frame (wpE (defs₀ (F := F)) 𝒱₀ (c : Thread nD τ) none) Set.univ (bodyG i arg2 harg2) Q := by
  iintro ⟨HW, HIf, HIc, HOf, HOc, Hh, Hb, Hs, H0, H1, H2, H3, HQ⟩
  have e1 := mt (first_iff i).mp (by omega)
  have e4 := mt (last_iff i).mp (by omega)
  have e2 := (cond2_iff i).mpr h1
  have e3 := (cond3_iff i).mpr h3
  have e5 := (cond5_iff i).mpr h3
  icases (rep_of_owns _ _ _ _) $$ Hs with Hs
  icases (rep_of_owns _ _ _ _) $$ H0 with H0
  icases (rep_of_owns _ _ _ _) $$ H1 with H1
  icases (rep_of_owns _ _ _ _) $$ H2 with H2
  icases (rep_of_owns _ _ _ _) $$ H3 with H3
  sl_unfold [bodyG]
  sl_unfold [cc0_glcm_append_fused]
  sl_open_parts
  sl_exec
  sl_step
  have hA : mid.sl.v75 (F := F) c i C e5 = rowsOf C 0 (chunk (pt i)) := View.readAt_rep_unit _ _ _ (off11_eq i h3) _
  have hB : mid.sl.v78 (F := F) c i C e5 = rowsOf C 1 (chunk (pt i)) := View.readAt_rep_unit _ _ _ (off12_eq i h3) _
  have hD : mid.sl.dma0_1 c i X f0 = planes c X (Ring.bk 5 (pt i)) := View.read_writes_whole _ _ _
  have hO : landed c X (Ring.bk 5 (pt i)) gn = (blk (Ring.bk 5 (pt i))).view.writes (Elt F) gn [⟨Rect.whole S36x256x256, mid.sl.dma0_1 c i X f0⟩] := by rw [hD]
  iapply HQ
  isplitl [HW]
  · iexists _; iexact HW
  isplitl [HIc]
  · iexact HIc
  isplitl [HIf]
  · iexact HIf
  isplitl [HOc]
  · rw [hO]; iexact HOc
  isplitl [HOf]
  · iexact HOf
  isplitl [HIf_src]
  · iexact HIf_src
  isplitl [HOf_dst]
  · iexact HOf_dst
  isplitl [Hs]
  · iapply (owns_of_rep _ _ _ _) $$ Hs
  isplitl [H0]
  · iapply (owns_of (by rw [View.read_writes_full, View.readAt_rep_full, hA]; rfl)) $$ H0
  isplitl [H1]
  · iapply (owns_of (by rw [View.read_writes_full, View.readAt_rep_full, hA, hB]; rfl)) $$ H1
  isplitl [H2]
  · iapply (owns_of (by rw [View.read_writes_full, View.readAt_rep_full, hA, hB]; rfl)) $$ H2
  · iapply (owns_of (by rw [View.read_writes_full, View.readAt_rep_full, hA, hB]; rfl)) $$ H3

set_option maxHeartbeats 1000000 in
/-- Point 0: the first copy in is started, the codes and the zero counts are written, then the first chunk is counted. -/
theorem first (c : Dev nD) (q q2 : PosShare TreeShare) (i : grid0.Coords) (h : pt i = 0)
    (arg2 : Memref sig .tc .vmem S1x256x256 .f32) (harg2 : arg2.IsWhole)
    (X : Buf (Elt F) (imgM.view.loc (c : Thread nD τ)))
    (f0 : Buf (Elt F) ((rslot 0).view.loc (c : Thread nD τ))) (f1 : Buf (Elt F) ((rslot 1).view.loc (c : Thread nD τ)))
    (g0 : Buf (Elt F) ((blk 0).view.loc (c : Thread nD τ)))
    (band : S1x256x256.Idx → F .f32) (C : S2x256x256.Idx → BitVec 8) (T : S256x256.Idx → F .bf16) (a0 a1 a2 a3 : S256x256.Idx → F .f32)
    (W : Waits sig Unit) (Q : PUnit → sProp 𝕄) :
    iprop(owes (c : Thread nD τ) 0 W
      ∗ inP c 0 ∗ inP c 1 ∗ outP c 0 ∗ slotP c 0 f0 ∗ slotP c 1 f1
      ∗ homeP c q X 0 ∗ homeP c q X 1 ∗ blkP c 0 g0
      ∗ owns (c : Thread nD τ) arg2 q2 band
      ∗ owns (c : Thread nD τ) codeM fullShare C ∗ owns (c : Thread nD τ) turnM fullShare T
      ∗ owns (c : Thread nD τ) cntM0 fullShare a0 ∗ owns (c : Thread nD τ) cntM1 fullShare a1
      ∗ owns (c : Thread nD τ) cntM2 fullShare a2 ∗ owns (c : Thread nD τ) cntM3 fullShare a3
      ∗ ((someW c
          ∗ inF c q X 1 1 f1 ∗ inP c 0 ∗ outF c 0 0 (filled c X 0 0 f0) (landed c X 0 g0) ∗ homeP c q X 0
          ∗ owns (c : Thread nD τ) arg2 q2 band
          ∗ owns (c : Thread nD τ) codeM fullShare (codesV band) ∗ owns (c : Thread nD τ) turnM fullShare (k0_pay7 band)
          ∗ owns (c : Thread nD τ) cntM0 fullShare (cnt0 (codesV band) 1) ∗ owns (c : Thread nD τ) cntM1 fullShare (cnt1 (codesV band) 1)
          ∗ owns (c : Thread nD τ) cntM2 fullShare (cnt2 (codesV band) 1) ∗ owns (c : Thread nD τ) cntM3 fullShare (cnt3 (codesV band) 1)) -∗ Q ⟨⟩))
      ⊢ wp frame (wpE (defs₀ (F := F)) 𝒱₀ (c : Thread nD τ) none) Set.univ (bodyG i arg2 harg2) Q := by
  iintro ⟨HW, HI0, HI1, HO0, HS0, HS1, Hh0, Hh1, Hb, Hv, Hs, Ht, H0, H1, H2, H3, HQ⟩
  have e1 := (first_iff i).mpr h
  have e4 := mt (last_iff i).mp (by omega)
  have e2 := mt (cond2_iff i).mp (by omega)
  have e3 := (cond3_iff i).mpr (by omega)
  have e5 := (cond5_iff i).mpr (by omega)
  icases (rep_of_owns _ _ _ _) $$ Hv with Hv
  icases (rep_of_owns _ _ _ _) $$ Hs with Hs
  icases (rep_of_owns _ _ _ _) $$ Ht with Ht
  icases (rep_of_owns _ _ _ _) $$ H0 with H0
  icases (rep_of_owns _ _ _ _) $$ H1 with H1
  icases (rep_of_owns _ _ _ _) $$ H2 with H2
  icases (rep_of_owns _ _ _ _) $$ H3 with H3
  sl_unfold [bodyG]
  sl_unfold [cc0_glcm_append_fused]
  sl_open_parts
  sl_exec
  sl_step
  have hB : arg2.view.readAt (Elt F) (Rect.unit (s := S1x256x256) ![0, 0, 0] S1x256x256.size inb_S1x256x256_S1x256x256_0_0_0).toLoadRect (arg2.view.rep band) = band :=
    View.readAt_rep_full _ _ _
  have hC : ∀ f, codeM.view.read (Elt F) (codeM.view.writes (Elt F) f (first.sl.Hs_2 c arg2 band)) = codesV band := fun f => by
    unfold first.sl.Hs_2; rw [hB]; exact read_codes f band
  have hA : first.sl.v75 (F := F) c i arg2 band e5 = rowsOf (codesV band) 0 (chunk 0) := by
    unfold first.sl.v75; rw [View.readAt_unit _ _ _ ((off11_eq i (by omega)).trans (by rw [h])) (rows_inb 0 (chunk 0)), hC]; rfl
  have hA' : first.sl.v78 (F := F) c i arg2 band e5 = rowsOf (codesV band) 1 (chunk 0) := by
    unfold first.sl.v78; rw [View.readAt_unit _ _ _ ((off12_eq i (by omega)).trans (by rw [h])) (rows_inb 1 (chunk 0)), hC]; rfl
  have hz0 : first.sl.v96 (F := F) c = cnt0 (codesV band) 0 := View.readCov_full _ _ _ _ _
  have hz1 : first.sl.v109 (F := F) c = cnt1 (codesV band) 0 := View.readCov_full _ _ _ _ _
  have hz2 : first.sl.v122 (F := F) c = cnt2 (codesV band) 0 := View.readCov_full _ _ _ _ _
  have hz3 : first.sl.v135 (F := F) c = cnt3 (codesV band) 0 := View.readCov_full _ _ _ _ _
  have hD : first.sl.dma0_2 c X f0 = planes c X 0 := View.read_writes_whole _ _ _
  have hO : landed c X 0 g0 = (blk 0).view.writes (Elt F) g0 [⟨Rect.whole S36x256x256, first.sl.dma0_2 c X f0⟩] := by rw [hD]
  iapply HQ
  isplitl [HW]
  · iexists _; iexact HW
  isplitl [HI1]
  · iexact HI1
  isplitl [HI0]
  · iexact HI0
  isplitl [HO0]
  · rw [hO]; iexact HO0
  isplitl [Hh0]
  · iexact Hh0
  isplitl [Hv]
  · iapply (owns_of_rep _ _ _ _) $$ Hv
  isplitl [Hs]
  · iapply (owns_of (hC _)) $$ Hs
  isplitl [Ht]
  · iapply (owns_of (by rw [View.read_writes_full, hB])) $$ Ht
  isplitl [H0]
  · iapply (owns_of (by rw [View.read_writes_full, hA, hz0]; rfl)) $$ H0
  isplitl [H1]
  · iapply (owns_of (by rw [View.read_writes_full, hA, hA', hz1]; rfl)) $$ H1
  isplitl [H2]
  · iapply (owns_of (by rw [View.read_writes_full, hA, hA', hz2]; rfl)) $$ H2
  · iapply (owns_of (by rw [View.read_writes_full, hA, hA', hz3]; rfl)) $$ H3

set_option maxHeartbeats 1000000 in
/-- Point 4: the last copies, the corrections and the variance. -/
theorem last (c : Dev nD) (q : PosShare TreeShare) (i : grid0.Coords) (h : pt i = 4)
    (arg2 : Memref sig .tc .vmem S1x256x256 .f32) (harg2 : arg2.IsWhole)
    (X : Buf (Elt F) (imgM.view.loc (c : Thread nD τ)))
    (f0 : Buf (Elt F) ((rslot 0).view.loc (c : Thread nD τ))) (fp : Buf (Elt F) ((rslot 1).view.loc (c : Thread nD τ)))
    (gp : Buf (Elt F) ((blk 3).view.loc (c : Thread nD τ))) (g4 : Buf (Elt F) ((blk 4).view.loc (c : Thread nD τ)))
    (gl : Buf (Elt F) (lastP.view.loc (c : Thread nD τ)))
    (C : S2x256x256.Idx → BitVec 8) (T : S256x256.Idx → F .bf16) (a0 a1 a2 a3 : S256x256.Idx → F .f32) (v : S1x256x256.Idx → F .f32)
    (W : Waits sig Unit) (Q : PUnit → sProp 𝕄) :
    iprop(owes (c : Thread nD τ) 0 W
      ∗ inF c q X 0 4 f0 ∗ outF c 1 3 fp gp ∗ outP c 0 ∗ semVal ((c : Thread nD τ), SemLoc.dma cc0_scratch10.sem) 0
      ∗ blkP c 4 g4 ∗ (lastP.view.loc (c : Thread nD τ) ↦[lastP.view.set]{fullShare} gl)
      ∗ owns (c : Thread nD τ) codeM fullShare C ∗ owns (c : Thread nD τ) turnM fullShare T
      ∗ owns (c : Thread nD τ) cntM0 fullShare a0 ∗ owns (c : Thread nD τ) cntM1 fullShare a1
      ∗ owns (c : Thread nD τ) cntM2 fullShare a2 ∗ owns (c : Thread nD τ) cntM3 fullShare a3
      ∗ owns (c : Thread nD τ) varM fullShare v
      ∗ ((someW c
          ∗ inP c 0 ∗ outP c 0 ∗ outP c 1 ∗ semVal ((c : Thread nD τ), SemLoc.dma cc0_scratch10.sem) 0
          ∗ slotP c 0 (filled c X 0 4 f0) ∗ slotP c 1 fp ∗ homeP c q X 4 ∗ blkP c 3 gp ∗ blkP c 4 (landed c X 4 g4)
          ∗ owns (c : Thread nD τ) lastP fullShare (finV (planeOf C) (turn0 T) (turn255 T) a0 a1 a2 a3)
          ∗ owns (c : Thread nD τ) codeM fullShare C ∗ owns (c : Thread nD τ) turnM fullShare T
          ∗ owns (c : Thread nD τ) cntM0 fullShare a0 ∗ owns (c : Thread nD τ) cntM1 fullShare a1
          ∗ owns (c : Thread nD τ) cntM2 fullShare a2 ∗ owns (c : Thread nD τ) cntM3 fullShare a3
          ∗ owns (c : Thread nD τ) varM fullShare (finV (planeOf C) (turn0 T) (turn255 T) a0 a1 a2 a3)) -∗ Q ⟨⟩))
      ⊢ wp frame (wpE (defs₀ (F := F)) 𝒱₀ (c : Thread nD τ) none) Set.univ (bodyG i arg2 harg2) Q := by
  iintro ⟨HW, HIf, HOf, HO0, HV, Hb, Hl, Hs, Ht, H0, H1, H2, H3, Hv, HQ⟩
  have e1 := mt (first_iff i).mp (by omega)
  have e4 := (last_iff i).mpr h
  have e2 := (cond2_iff i).mpr (by omega)
  have e3 := mt (cond3_iff i).mp (by omega)
  have e5 := mt (cond5_iff i).mp (by omega)
  icases (rep_of_owns _ _ _ _) $$ Hs with Hs
  icases (rep_of_owns _ _ _ _) $$ Ht with Ht
  icases (rep_of_owns _ _ _ _) $$ H0 with H0
  icases (rep_of_owns _ _ _ _) $$ H1 with H1
  icases (rep_of_owns _ _ _ _) $$ H2 with H2
  icases (rep_of_owns _ _ _ _) $$ H3 with H3
  icases (rep_of_owns _ _ _ _) $$ Hv with Hv
  sl_unfold [bodyG]
  sl_unfold [cc0_glcm_append_fused]
  sl_open_parts
  sl_exec
  sl_step
  have hV : ∀ f, varM.view.read (Elt F) (varM.view.writes (Elt F) f (last.sl.Hv_1 c C T a0 a1 a2 a3)) = finV (planeOf C) (turn0 T) (turn255 T) a0 a1 a2 a3 := fun f => by
    unfold last.sl.Hv_1
    rw [View.read_writes_full, View.readAt_rep_full, View.readAt_rep_full, View.readAt_rep_full, View.readAt_rep_full,
      View.readAt_rep_unit codeM.view _ _ rfl inb_S2x256x256_S1x256x256_0_0_0, View.readAt_rep_unit turnM.view _ _ rfl inb_S256x256_S1x256_0_0,
      View.readAt_rep_unit turnM.view _ _ rfl inb_S256x256_S1x256_255_0]
    rfl
  have hL : last.sl.dma9 c C T a0 a1 a2 a3 v = finV (planeOf C) (turn0 T) (turn255 T) a0 a1 a2 a3 := hV _
  have hD : last.sl.dma0 c X f0 = planes c X 4 := View.read_writes_whole _ _ _
  have hO : landed c X 4 g4 = (blk 4).view.writes (Elt F) g4 [⟨Rect.whole S36x256x256, last.sl.dma0 c X f0⟩] := by rw [hD]
  iapply HQ
  isplitl [HW]
  · iexists _; iexact HW
  isplitl [HIf]
  · iexact HIf
  isplitl [HO0]
  · iexact HO0
  isplitl [HOf]
  · iexact HOf
  isplitl [HV]
  · iexact HV
  isplitl [HIf_dst]
  · iexact HIf_dst
  isplitl [HOf_src]
  · iexact HOf_src
  isplitl [HIf_src]
  · iexact HIf_src
  isplitl [HOf_dst]
  · iexact HOf_dst
  isplitl [Hb]
  · rw [hO]; iexact Hb
  isplitl [Hl]
  · iapply (owns_of ((View.read_writes_whole _ _ _).trans hL)) $$ Hl
  isplitl [Hs]
  · iapply (owns_of_rep _ _ _ _) $$ Hs
  isplitl [Ht]
  · iapply (owns_of_rep _ _ _ _) $$ Ht
  isplitl [H0]
  · iapply (owns_of_rep _ _ _ _) $$ H0
  isplitl [H1]
  · iapply (owns_of_rep _ _ _ _) $$ H1
  isplitl [H2]
  · iapply (owns_of_rep _ _ _ _) $$ H2
  isplitl [H3]
  · iapply (owns_of_rep _ _ _ _) $$ H3
  · iapply (owns_of (hV _)) $$ Hv

end Cert.KernelIdeal.Run

end
-- ==== Proof.Cut.lean ====
/-
  The image, the result and the copy buffer cut into what the copies touch, and put together again: the image is its
  five blocks, the result its five blocks and its last plane, the copy buffer its two slots.
-/
module

public import proofs.«01_k».proof.Proof.Step

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The cuts as sets of indices -/

def imgCut (b : Fin 5) : Finset S180x256x256.Idx := Finset.univ.filter fun y => (y 0).val / 36 = b.val
def resCut (b : Fin 6) : Finset S181x256x256.Idx := Finset.univ.filter fun y => (y 0).val / 36 = b.val
def bufCut (s : Fin 2) : Finset S2x36x256x256.Idx := Finset.univ.filter fun y => (y 0).val = s.val

/-- The fibres of a map are disjoint and cover. -/
theorem fibres_disjoint {α β : Type} [Fintype α] [DecidableEq β] (f : α → ℕ) {n : ℕ} (I : Fin n → Finset α)
    (hI : ∀ b y, y ∈ I b ↔ f y = b.val) : ∀ b b', b ≠ b' → Disjoint (I b) (I b') := by
  intro b b' hne; rw [Finset.disjoint_left]; intro y hy hy'
  rw [hI] at hy hy'; exact hne (Fin.ext (hy.symm.trans hy'))
theorem fibres_cover {α : Type} [Fintype α] [DecidableEq α] (f : α → ℕ) {n : ℕ} (I : Fin n → Finset α)
    (hI : ∀ b y, y ∈ I b ↔ f y = b.val) (hf : ∀ y, f y < n) : (Finset.univ : Finset (Fin n)).biUnion I = Finset.univ := by
  ext y; simp only [Finset.mem_biUnion, Finset.mem_univ, true_and, iff_true]
  exact ⟨⟨f y, hf y⟩, (hI _ _).mpr rfl⟩

theorem mem_imgCut (b : Fin 5) (y : S180x256x256.Idx) : y ∈ imgCut b ↔ (y 0).val / 36 = b.val := by simp [imgCut]
theorem mem_resCut (b : Fin 6) (y : S181x256x256.Idx) : y ∈ resCut b ↔ (y 0).val / 36 = b.val := by simp [resCut]
theorem mem_bufCut (s : Fin 2) (y : S2x36x256x256.Idx) : y ∈ bufCut s ↔ (y 0).val = s.val := by simp [bufCut]

theorem imgCut_disjoint : ∀ b b', b ≠ b' → Disjoint (imgCut b) (imgCut b') := fibres_disjoint (β := ℕ) (fun y => (y 0).val / 36) imgCut mem_imgCut
theorem resCut_disjoint : ∀ b b', b ≠ b' → Disjoint (resCut b) (resCut b') := fibres_disjoint (β := ℕ) (fun y => (y 0).val / 36) resCut mem_resCut
theorem bufCut_disjoint : ∀ b b', b ≠ b' → Disjoint (bufCut b) (bufCut b') := fibres_disjoint (β := ℕ) (fun y => (y 0).val) bufCut mem_bufCut
theorem imgCut_cover : (Finset.univ : Finset (Fin 5)).biUnion imgCut = Finset.univ :=
  fibres_cover (fun y => (y 0).val / 36) imgCut mem_imgCut fun y => by have : (y 0).val < 180 := (y 0).isLt; omega
theorem resCut_cover : (Finset.univ : Finset (Fin 6)).biUnion resCut = Finset.univ :=
  fibres_cover (fun y => (y 0).val / 36) resCut mem_resCut fun y => by have : (y 0).val < 181 := (y 0).isLt; omega
theorem bufCut_cover : (Finset.univ : Finset (Fin 2)).biUnion bufCut = Finset.univ :=
  fibres_cover (fun y => (y 0).val) bufCut mem_bufCut fun y => by have : (y 0).val < 2 := (y 0).isLt; omega

theorem grp_set (b : Fin 5) : (grp b).view.set = imgCut b := by
  refine (View.set_slice_whole _ _).trans (show (Rect.unit (s := S180x256x256) (blkOff b) S36x256x256.size (blkOff_img b)).set = imgCut b from Finset.ext fun y => ?_)
  rw [mem_imgCut, Rect.mem_set_unit]
  have h1 : (y 1).val < 256 := (y 1).isLt
  have h2 : (y 2).val < 256 := (y 2).isLt
  constructor
  · intro H; have a0 : 36 * b.val ≤ (y 0).val ∧ (y 0).val < 36 * b.val + 36 := H 0; omega
  · intro H i; fin_cases i
    · show 36 * b.val ≤ (y 0).val ∧ (y 0).val < 36 * b.val + 36; omega
    · show 0 ≤ (y 1).val ∧ (y 1).val < 0 + 256; omega
    · show 0 ≤ (y 2).val ∧ (y 2).val < 0 + 256; omega
theorem blk_set (b : Fin 5) : (blk b).view.set = resCut b.castSucc := by
  refine (View.set_slice_whole _ _).trans (show (Rect.unit (s := S181x256x256) (blkOff b) S36x256x256.size (blkOff_res b)).set = resCut b.castSucc from Finset.ext fun y => ?_)
  rw [mem_resCut, Rect.mem_set_unit, Fin.val_castSucc]
  have h1 : (y 1).val < 256 := (y 1).isLt
  have h2 : (y 2).val < 256 := (y 2).isLt
  constructor
  · intro H; have a0 : 36 * b.val ≤ (y 0).val ∧ (y 0).val < 36 * b.val + 36 := H 0; omega
  · intro H i; fin_cases i
    · show 36 * b.val ≤ (y 0).val ∧ (y 0).val < 36 * b.val + 36; omega
    · show 0 ≤ (y 1).val ∧ (y 1).val < 0 + 256; omega
    · show 0 ≤ (y 2).val ∧ (y 2).val < 0 + 256; omega
theorem lastP_set : lastP.view.set = resCut 5 := by
  refine (View.set_slice_whole _ _).trans (show (Rect.unit (s := S181x256x256) ![180, 0, 0] S1x256x256.size lastOff_res).set = resCut 5 from Finset.ext fun y => ?_)
  rw [mem_resCut, Rect.mem_set_unit]
  have h0 : (y 0).val < 181 := (y 0).isLt
  have h1 : (y 1).val < 256 := (y 1).isLt
  have h2 : (y 2).val < 256 := (y 2).isLt
  constructor
  · intro H; have a0 : 180 ≤ (y 0).val ∧ (y 0).val < 180 + 1 := H 0; show (y 0).val / 36 = 5; omega
  · intro H i; have H : (y 0).val / 36 = 5 := H; fin_cases i
    · show 180 ≤ (y 0).val ∧ (y 0).val < 180 + 1; omega
    · show 0 ≤ (y 1).val ∧ (y 1).val < 0 + 256; omega
    · show 0 ≤ (y 2).val ∧ (y 2).val < 0 + 256; omega
theorem rslot_set (s : Fin 2) : (rslot s).view.set = bufCut s := by
  refine ((View.set_reshape _ _).trans (View.set_slice_whole _ _)).trans
    (show (Rect.unit (s := S2x36x256x256) (slotOff s) S1x36x256x256.size (slotOff_inb s)).set = bufCut s from Finset.ext fun y => ?_)
  rw [mem_bufCut, Rect.mem_set_unit]
  have h1 : (y 1).val < 36 := (y 1).isLt
  have h2 : (y 2).val < 256 := (y 2).isLt
  have h3 : (y 3).val < 256 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 36; omega
    · show 0 ≤ (y 2).val ∧ (y 2).val < 0 + 256; omega
    · show 0 ≤ (y 3).val ∧ (y 3).val < 0 + 256; omega

/-! ## What is held of them -/

variable (c : Dev nD) (q : PosShare TreeShare)

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem homeP_eq (X : Buf (Elt F) ((c : Thread nD τ).loc main_arg0)) (b : Fin 5) :
    (homeP c q X b : sProp 𝕄) = (((c : Thread nD τ).loc main_arg0) ↦[imgCut b]{q} X) := by
  rw [← grp_set]; rfl
theorem blkP_eq (g : Buf (Elt F) ((c : Thread nD τ).loc main_v1)) (b : Fin 5) :
    (blkP c b g : sProp 𝕄) = (((c : Thread nD τ).loc main_v1) ↦[resCut b.castSucc]{fullShare} g) := by
  rw [← blk_set]; rfl
/-- The last plane held at `g`. -/
abbrev lastH (g : Buf (Elt F) (lastP.view.loc (c : Thread nD τ))) : sProp 𝕄 := lastP.view.loc (c : Thread nD τ) ↦[lastP.view.set]{fullShare} g
theorem lastH_eq (g : Buf (Elt F) ((c : Thread nD τ).loc main_v1)) :
    (lastH c g : sProp 𝕄) = (((c : Thread nD τ).loc main_v1) ↦[resCut 5]{fullShare} g) := by
  rw [← lastP_set]; rfl
theorem slotP_eq (s : Fin 2) (f : Buf (Elt F) ((c : Thread nD τ).loc cc0_scratch6)) :
    (slotP c s f : sProp 𝕄) = (((c : Thread nD τ).loc cc0_scratch6) ↦[bufCut s]{fullShare} f) := by
  rw [← rslot_set]; rfl

/-- The image is its blocks. -/
theorem img_eq (X : Buf (Elt F) ((c : Thread nD τ).loc main_arg0)) :
    (((c : Thread nD τ).loc main_arg0) ↦{q} X : sProp 𝕄) = bigSep Finset.univ (homeP c q X) := by
  rw [Ring.pointsTo_blocks (ℓ := (c : Thread nD τ).loc main_arg0) imgCut imgCut_disjoint imgCut_cover]
  exact bigSep_congr fun b _ => (homeP_eq c q X b).symm
/-- The result is its blocks and its last plane; -/
theorem res_split (g : Buf (Elt F) ((c : Thread nD τ).loc main_v1)) :
    (((c : Thread nD τ).loc main_v1) ↦{fullShare} g : sProp 𝕄) ⊢ iprop((bigSep Finset.univ fun b => blkP c b g) ∗ lastH c g) := by
  rw [Ring.pointsTo_blocks (ℓ := (c : Thread nD τ).loc main_v1) resCut resCut_disjoint resCut_cover, bigSep_fin6, bigSep_fin5,
    blkP_eq, blkP_eq, blkP_eq, blkP_eq, blkP_eq, lastH_eq]
  iintro ⟨H0, H1, H2, H3, H4, H5⟩
  isplitr [H5]
  · isplitl [H0]; · iexact H0
    isplitl [H1]; · iexact H1
    isplitl [H2]; · iexact H2
    isplitl [H3]; · iexact H3
    iexact H4
  · iexact H5
/-- and they are the result. -/
theorem res_join (g : Buf (Elt F) ((c : Thread nD τ).loc main_v1)) :
    iprop((bigSep Finset.univ fun b => blkP c b g) ∗ lastH c g) ⊢ (((c : Thread nD τ).loc main_v1) ↦{fullShare} g : sProp 𝕄) := by
  rw [Ring.pointsTo_blocks (ℓ := (c : Thread nD τ).loc main_v1) resCut resCut_disjoint resCut_cover, bigSep_fin6, bigSep_fin5,
    blkP_eq, blkP_eq, blkP_eq, blkP_eq, blkP_eq, lastH_eq]
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5
/-- The copy buffer at something is its slots at something. -/
theorem buf_split (f : Buf (Elt F) ((c : Thread nD τ).loc cc0_scratch6)) :
    (((c : Thread nD τ).loc cc0_scratch6) ↦{fullShare} f : sProp 𝕄) = iprop(slotP c 0 f ∗ slotP c 1 f) := by
  rw [Ring.pointsTo_blocks (ℓ := (c : Thread nD τ).loc cc0_scratch6) bufCut bufCut_disjoint bufCut_cover, bigSep_fin2, slotP_eq, slotP_eq]
theorem buf_join :
    iprop((∃ f, slotP c 0 f) ∗ ∃ f, slotP c 1 f)
      ⊢ (iprop(∃ f : Buf (Elt F) ((c : Thread nD τ).loc cc0_scratch6), ((c : Thread nD τ).loc cc0_scratch6) ↦{fullShare} f) : sProp 𝕄) := by
  iintro ⟨⟨%f0, H0⟩, ⟨%f1, H1⟩⟩
  iapply (Ring.pointsTo_blocks_join_exists (ℓ := (c : Thread nD τ).loc cc0_scratch6) bufCut bufCut_disjoint bufCut_cover f0)
  irw [bigSep_fin2]
  isplitl [H0]
  · iexists f0; iapply (Entails.of_eq (slotP_eq c 0 f0)); iexact H0
  · iexists f1; iapply (Entails.of_eq (slotP_eq c 1 f1)); iexact H1

/-! ## The result's final contents -/

/-- The image in its first 180 planes, `v` in the last. -/
def outV (X : S180x256x256.Idx → F .f32) (v : S1x256x256.Idx → F .f32) : S181x256x256.Idx → F .f32 := fun y =>
  if h : (y 0).val < 180 then X (ValueIdx.ix3 ⟨(y 0).val, h⟩ (y 1) (y 2)) else v (ValueIdx.ix3 0 (y 1) (y 2))

/-- Contents that read alike through a view agree on what it names. -/
theorem agree_of_read {κ : Kind} {sp : Space} {sh : Shape} {e : EltTy} {v : View sig κ sp sh e} {f g : v.ty.Contents (Elt F)}
    (h : v.read (Elt F) f = v.read (Elt F) g) : ∀ y ∈ v.set, f y = g y := by
  intro y hy
  obtain ⟨x, -, rfl⟩ := Finset.mem_map.mp hy
  have hx := congrFun h x
  rw [View.read_apply, View.read_apply] at hx
  exact (cast_bijective (congrArg (Elt F) v.elt_eq)).injective hx

theorem read_outV (X : S180x256x256.Idx → F .f32) (v : S1x256x256.Idx → F .f32) (b : Fin 5) :
    (blk b).view.read (Elt F) (outV X v) = (grp b).view.read (Elt F) X := by
  funext x
  have hb := b.isLt
  have hx : (x 0).val < 36 := (x 0).isLt
  have e0 : ((show S181x256x256.Idx from (blk b).view.emb x) 0).val = 36 * b.val + 1 * (x 0).val := rfl
  show outV X v (show S181x256x256.Idx from (blk b).view.emb x) = X (show S180x256x256.Idx from (grp b).view.emb x)
  unfold outV
  rw [dif_pos (by rw [e0]; omega)]
  refine congrArg X (funext fun a => ?_)
  fin_cases a <;> rfl

theorem read_outV_last (X : S180x256x256.Idx → F .f32) (v : S1x256x256.Idx → F .f32) :
    lastP.view.read (Elt F) (outV X v) = v := by
  funext x
  have hx : (x 0).val < 1 := (x 0).isLt
  have e0 : ((show S181x256x256.Idx from lastP.view.emb x) 0).val = 180 + 1 * (x 0).val := rfl
  show outV X v (show S181x256x256.Idx from lastP.view.emb x) = v x
  unfold outV
  rw [dif_neg (by rw [e0]; omega)]
  refine congrArg v (funext fun a => ?_)
  fin_cases a
  · exact Fin.ext (by show 0 = (x 0).val; omega)
  · exact Fin.ext (by show 0 + 1 * (x 1).val = (x 1).val; omega)
  · exact Fin.ext (by show 0 + 1 * (x 2).val = (x 2).val; omega)

/-- A block that has landed holds the final contents there, -/
theorem landed_out (X : Buf (Elt F) ((c : Thread nD τ).loc main_arg0)) (v : S1x256x256.Idx → F .f32) (b : Fin 5) (g : Buf (Elt F) ((c : Thread nD τ).loc main_v1)) :
    (blkP c b (landed c X b g) : sProp 𝕄) = blkP c b (outV X v) :=
  pointsTo_congr (agree_of_read ((View.read_writes_whole _ _ _).trans (read_outV X v b).symm))

theorem lastH_out (X : Buf (Elt F) ((c : Thread nD τ).loc main_arg0)) (v : S1x256x256.Idx → F .f32) (f : Buf (Elt F) (lastP.view.loc (c : Thread nD τ)))
    (hf : lastP.view.read (Elt F) f = v) : (lastH c f : sProp 𝕄) = lastH c (outV X v) :=
  pointsTo_congr (agree_of_read (hf.trans (read_outV_last X v).symm))
/-- and so does the last plane owned at `v`. -/
theorem last_out (X : Buf (Elt F) ((c : Thread nD τ).loc main_arg0)) (v : S1x256x256.Idx → F .f32) :
    (owns (c : Thread nD τ) lastP fullShare v : sProp 𝕄) ⊢ lastH c (outV X v) := by
  unfold owns
  iintro ⟨%f, %hf, H⟩
  irw [← lastH_out c X v f hf]
  iexact H

end Cert.KernelIdeal.Run

end
-- ==== Proof.Inv.lean ====
/-
  What the kernel holds between two points of its grid, and the body at the first, a middle and the last point as a
  step from one holding to the next.
-/
module

public import proofs.«01_k».proof.Proof.Cut

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (q : PosShare TreeShare)
variable (X : Buf (Elt F) ((c : Thread nD τ).loc main_arg0)) (G : Buf (Elt F) ((c : Thread nD τ).loc main_v1))
variable (band : S1x256x256.Idx → F .f32)

/-! ## The holdings -/

/-- The five counters of the copies at zero. -/
abbrev cells : sProp 𝕄 := iprop(inP c 0 ∗ inP c 1 ∗ outP c 0 ∗ outP c 1 ∗ semVal ((c : Thread nD τ), SemLoc.dma cc0_scratch10.sem) 0)
/-- The scratch buffers other than the copy buffer, at something. -/
def scr : sProp 𝕄 :=
  iprop((∃ C, owns (c : Thread nD τ) codeM fullShare C) ∗ (∃ T, owns (c : Thread nD τ) turnM fullShare T)
    ∗ (∃ a, owns (c : Thread nD τ) cntM0 fullShare a) ∗ (∃ a, owns (c : Thread nD τ) cntM1 fullShare a)
    ∗ (∃ a, owns (c : Thread nD τ) cntM2 fullShare a) ∗ (∃ a, owns (c : Thread nD τ) cntM3 fullShare a)
    ∗ (∃ v, owns (c : Thread nD τ) varM fullShare v))
/-- The image's blocks but block `n`, which a copy reads. -/
def homes (n : ℕ) : sProp 𝕄 := bigSep Finset.univ fun b : Fin 5 => if b.val = n then iprop(emp) else homeP c q X b
/-- The result's blocks: those before block `n - 1` landed, block `n - 1` on its way, the others as they were. -/
def blks (n : ℕ) : sProp 𝕄 := bigSep Finset.univ fun b : Fin 5 =>
  if b.val + 1 = n then iprop(emp) else if b.val + 1 < n then blkP c b (landed c X b G) else blkP c b G

/-- Before the first point; -/
def start : sProp 𝕄 :=
  iprop(cells c ∗ (∃ f, slotP c 0 f) ∗ (∃ f, slotP c 1 f) ∗ homes c q X 5 ∗ blks c X G 0 ∗ lastH c G ∗ scr c)
/-- between two points, block `b` coming into slot `s` and block `b'` going out of slot `s'`; -/
def flyAt (s s' : Fin 2) (b b' : Fin 5) (n : ℕ) : sProp 𝕄 :=
  iprop((∃ f, inF c q X s b f) ∗ inP c s' ∗ (∃ f, outF c s' b' f (landed c X b' G)) ∗ outP c s
    ∗ semVal ((c : Thread nD τ), SemLoc.dma cc0_scratch10.sem) 0
    ∗ homes c q X n ∗ blks c X G n ∗ lastH c G
    ∗ owns (c : Thread nD τ) codeM fullShare (codesV band) ∗ owns (c : Thread nD τ) turnM fullShare (k0_pay7 band)
    ∗ owns (c : Thread nD τ) cntM0 fullShare (cnt0 (codesV band) n) ∗ owns (c : Thread nD τ) cntM1 fullShare (cnt1 (codesV band) n)
    ∗ owns (c : Thread nD τ) cntM2 fullShare (cnt2 (codesV band) n) ∗ owns (c : Thread nD τ) cntM3 fullShare (cnt3 (codesV band) n)
    ∗ (∃ v, owns (c : Thread nD τ) varM fullShare v))
abbrev fly (n : ℕ) : sProp 𝕄 := flyAt c q X G band (Ring.sl 2 n) (Ring.sl 2 (n + 1)) (Ring.bk 5 n) (Ring.bk 5 (n - 1)) n
/-- after the last. -/
def done : sProp 𝕄 :=
  iprop(cells c ∗ (∃ f, slotP c 0 f) ∗ (∃ f, slotP c 1 f) ∗ homes c q X 5 ∗ blks c X G 6
    ∗ owns (c : Thread nD τ) lastP fullShare (lastV band) ∗ scr c)

/-! ## Two blocks taken out and put back changed -/

theorem swap2 {f g : Fin 5 → sProp 𝕄} (a b : Fin 5) (hab : b ≠ a) (h : ∀ x, x ≠ a → x ≠ b → f x = g x) :
    ∃ R : sProp 𝕄, bigSep Finset.univ f = iprop(f a ∗ f b ∗ R) ∧ bigSep Finset.univ g = iprop(g a ∗ g b ∗ R) := by
  have hb : b ∈ Finset.univ.erase a := Finset.mem_erase.mpr ⟨hab, Finset.mem_univ _⟩
  refine ⟨bigSep ((Finset.univ.erase a).erase b) f, ?_, ?_⟩
  · rw [bigSep_erase (Finset.mem_univ a), bigSep_erase hb]; rfl
  · rw [bigSep_erase (Finset.mem_univ a), bigSep_erase hb]
    exact congrArg (fun r => iprop(g a ∗ g b ∗ r)) (bigSep_congr fun x hx => (h x (Finset.ne_of_mem_erase (Finset.mem_of_mem_erase hx)) (Finset.ne_of_mem_erase hx)).symm)

theorem homes_first : ∃ R : sProp 𝕄, homes c q X 5 = iprop(homeP c q X 0 ∗ homeP c q X 1 ∗ R) ∧ homes c q X 1 = iprop(homeP c q X 0 ∗ emp ∗ R) := by
  unfold homes
  refine swap2 (0 : Fin 5) 1 (by decide) fun x h0 h1 => ?_
  have := x.isLt
  rw [if_neg (by omega), if_neg (show ¬ x.val = 1 from fun e => h1 (Fin.ext e))]
theorem blks_first : ∃ R : sProp 𝕄, blks c X G 0 = iprop(blkP c 0 G ∗ blkP c 1 G ∗ R) ∧ blks c X G 1 = iprop(emp ∗ blkP c 1 G ∗ R) := by
  unfold blks
  refine swap2 (0 : Fin 5) 1 (by decide) fun x h0 h1 => ?_
  have h : x.val ≠ 0 := fun e => h0 (Fin.ext e)
  rw [if_neg (by omega), if_neg (by omega), if_neg (by omega), if_neg (by omega)]
theorem homes_mid (n : ℕ) (h : n ≤ 3) : ∃ R : sProp 𝕄, homes c q X n = iprop(emp ∗ homeP c q X (Ring.bk 5 (n + 1)) ∗ R)
    ∧ homes c q X (n + 1) = iprop(homeP c q X (Ring.bk 5 n) ∗ emp ∗ R) := by
  have e0 : (Ring.bk 5 n).val = n := Ring.bk_val (by omega)
  have e1 : (Ring.bk 5 (n + 1)).val = n + 1 := Ring.bk_val (by omega)
  obtain ⟨R, h1, h2⟩ := swap2 (f := fun b : Fin 5 => if b.val = n then iprop(emp) else homeP c q X b)
    (g := fun b : Fin 5 => if b.val = n + 1 then iprop(emp) else homeP c q X b) (Ring.bk 5 n) (Ring.bk 5 (n + 1))
    (fun e => by have := congrArg Fin.val e; omega) (fun x ha hb => by
      rw [if_neg (fun e => ha (Fin.ext (e.trans e0.symm))), if_neg (fun e => hb (Fin.ext (e.trans e1.symm)))])
  refine ⟨R, h1.trans ?_, h2.trans ?_⟩
  · rw [if_pos e0, if_neg (by omega)]
  · rw [if_neg (by omega), if_pos e1]
theorem blks_mid (n : ℕ) (h1 : 1 ≤ n) (h : n ≤ 4) : ∃ R : sProp 𝕄, blks c X G n = iprop(emp ∗ blkP c (Ring.bk 5 n) G ∗ R)
    ∧ blks c X G (n + 1) = iprop(blkP c (Ring.bk 5 (n - 1)) (landed c X (Ring.bk 5 (n - 1)) G) ∗ emp ∗ R) := by
  have e0 : (Ring.bk 5 (n - 1)).val = n - 1 := Ring.bk_val (by omega)
  have e1 : (Ring.bk 5 n).val = n := Ring.bk_val (by omega)
  refine Exists.imp (fun R hR => ⟨hR.1.trans ?_, hR.2.trans ?_⟩) (swap2 (f := fun b : Fin 5 => if b.val + 1 = n then iprop(emp) else if b.val + 1 < n then blkP c b (landed c X b G) else blkP c b G)
    (g := fun b : Fin 5 => if b.val + 1 = n + 1 then iprop(emp) else if b.val + 1 < n + 1 then blkP c b (landed c X b G) else blkP c b G)
    (Ring.bk 5 (n - 1)) (Ring.bk 5 n)
    (fun e => by have := congrArg Fin.val e; omega) (fun x ha hb => by
      have ha : x.val ≠ n - 1 := fun e => ha (Fin.ext (e.trans e0.symm))
      have hb : x.val ≠ n := fun e => hb (Fin.ext (e.trans e1.symm))
      by_cases hx : x.val + 1 < n
      · rw [if_neg (show ¬ x.val + 1 = n by omega), if_pos hx, if_neg (show ¬ x.val + 1 = n + 1 by omega), if_pos (show x.val + 1 < n + 1 by omega)]
      · rw [if_neg (show ¬ x.val + 1 = n by omega), if_neg hx, if_neg (show ¬ x.val + 1 = n + 1 by omega), if_neg (show ¬ x.val + 1 < n + 1 by omega)]))
  · rw [if_pos (by omega), if_neg (by omega), if_neg (by omega)]
  · rw [if_neg (by omega), if_pos (by omega), if_pos (by omega)]
theorem blks_last : ∃ R : sProp 𝕄, blks c X G 4 = iprop(emp ∗ blkP c 4 G ∗ R)
    ∧ blks c X G 6 = iprop(blkP c 3 (landed c X 3 G) ∗ blkP c 4 (landed c X 4 G) ∗ R) := by
  unfold blks
  refine swap2 (3 : Fin 5) 4 (by decide) fun x h0 h1 => ?_
  have h0 : x.val ≠ 3 := fun e => h0 (Fin.ext e)
  have h1 : x.val ≠ 4 := fun e => h1 (Fin.ext e)
  have := x.isLt
  rw [if_neg (by omega), if_pos (by omega), if_neg (by omega), if_pos (by omega)]
theorem homes_last : ∃ R : sProp 𝕄, homes c q X 4 = iprop(homeP c q X 3 ∗ emp ∗ R) ∧ homes c q X 5 = iprop(homeP c q X 3 ∗ homeP c q X 4 ∗ R) := by
  unfold homes
  refine swap2 (3 : Fin 5) 4 (by decide) fun x h0 h1 => ?_
  have h1 : x.val ≠ 4 := fun e => h1 (Fin.ext e)
  have := x.isLt
  rw [if_neg h1, if_neg (by omega)]

/-! ## The body as steps -/

/-- From before the first point to before the second. -/
theorem step_first (q2 : PosShare TreeShare) (i : grid0.Coords) (h : pt i = 0) (arg2 : Memref sig .tc .vmem S1x256x256 .f32) (harg2 : arg2.IsWhole)
    (W : Waits sig Unit) (Q : PUnit → sProp 𝕄) :
    iprop(owes (c : Thread nD τ) 0 W ∗ start c q X G ∗ owns (c : Thread nD τ) arg2 q2 band
        ∗ ((someW c ∗ fly c q X G band 1 ∗ owns (c : Thread nD τ) arg2 q2 band) -∗ Q ⟨⟩))
      ⊢ wp frame (wpE (defs₀ (F := F)) 𝒱₀ (c : Thread nD τ) none) Set.univ (bodyG i arg2 harg2) Q := by
  obtain ⟨R, hh0, hh1⟩ := homes_first c q X
  obtain ⟨R', hb0, hb1⟩ := blks_first c X G
  unfold start scr
  rw [show (fly c q X G band 1 : sProp 𝕄) = flyAt c q X G band 1 0 1 0 1 from rfl]
  unfold flyAt
  rw [hh0, hh1, hb0, hb1]
  iintro ⟨HW, ⟨⟨HI0, HI1, HO0, HO1, HV⟩, ⟨%f0, HS0⟩, ⟨%f1, HS1⟩, ⟨Hh0, Hh1, HhR⟩, ⟨Hb0, Hb1, HbR⟩, Hl, ⟨%C, HC⟩, ⟨%T, HT⟩, ⟨%a0, H0⟩, ⟨%a1, H1⟩, ⟨%a2, H2⟩, ⟨%a3, H3⟩, Hv⟩, Harg, HQ⟩
  iapply (first c q q2 i h arg2 harg2 X f0 f1 G band C T a0 a1 a2 a3 W Q)
  isplitl [HW]; · iexact HW
  isplitl [HI0]; · iexact HI0
  isplitl [HI1]; · iexact HI1
  isplitl [HO0]; · iexact HO0
  isplitl [HS0]; · iexact HS0
  isplitl [HS1]; · iexact HS1
  isplitl [Hh0]; · iexact Hh0
  isplitl [Hh1]; · iexact Hh1
  isplitl [Hb0]; · iexact Hb0
  isplitl [Harg]; · iexact Harg
  isplitl [HC]; · iexact HC
  isplitl [HT]; · iexact HT
  isplitl [H0]; · iexact H0
  isplitl [H1]; · iexact H1
  isplitl [H2]; · iexact H2
  isplitl [H3]; · iexact H3
  iintro ⟨HW, HI, HI0, HO, Hh0, Harg, HC, HT, H0, H1, H2, H3⟩
  iapply HQ
  isplitl [HW]; · iexact HW
  isplitr [Harg]; swap; · iexact Harg
  isplitl [HI]; · iexists f1; iexact HI
  isplitl [HI0]; · iexact HI0
  isplitl [HO]; · iexists _; iexact HO
  isplitl [HO1]; · iexact HO1
  isplitl [HV]; · iexact HV
  isplitl [Hh0 HhR]
  · isplitl [Hh0]; · iexact Hh0
    isplitr [HhR]; · iempintro
    iexact HhR
  isplitl [Hb1 HbR]
  · isplitr [Hb1 HbR]; · iempintro
    isplitl [Hb1]; · iexact Hb1
    iexact HbR
  isplitl [Hl]; · iexact Hl
  isplitl [HC]; · iexact HC
  isplitl [HT]; · iexact HT
  isplitl [H0]; · iexact H0
  isplitl [H1]; · iexact H1
  isplitl [H2]; · iexact H2
  isplitl [H3]; · iexact H3
  iexact Hv

/-- From before point 1, 2 or 3 to before the next. -/
theorem step_mid (i : grid0.Coords) (n : ℕ) (hn : pt i = n) (h1 : 1 ≤ n) (h3 : n ≤ 3) (arg2 : Memref sig .tc .vmem S1x256x256 .f32) (harg2 : arg2.IsWhole)
    (W : Waits sig Unit) (Q : PUnit → sProp 𝕄) :
    iprop(owes (c : Thread nD τ) 0 W ∗ fly c q X G band n ∗ ((someW c ∗ fly c q X G band (n + 1)) -∗ Q ⟨⟩))
      ⊢ wp frame (wpE (defs₀ (F := F)) 𝒱₀ (c : Thread nD τ) none) Set.univ (bodyG i arg2 harg2) Q := by
  subst hn
  obtain ⟨R, hh0, hh1⟩ := homes_mid c q X (pt i) h3
  obtain ⟨R', hb0, hb1⟩ := blks_mid c X G (pt i) h1 (by omega)
  rw [show (fly c q X G band (pt i + 1) : sProp 𝕄) = flyAt c q X G band (Ring.sl 2 (pt i + 1)) (Ring.sl 2 (pt i)) (Ring.bk 5 (pt i + 1)) (Ring.bk 5 (pt i)) (pt i + 1) from by
    rw [← Ring.sl_add 2 (pt i)]; rfl]
  unfold fly flyAt
  rw [hh0, hh1, hb0, hb1]
  iintro ⟨HW, ⟨⟨%f0, HI⟩, HI', ⟨%fp, HO⟩, HO', HV, ⟨-, Hh, HhR⟩, ⟨-, Hb, HbR⟩, Hl, HC, HT, H0, H1, H2, H3, Hv⟩, HQ⟩
  iapply (mid c q i h1 h3 arg2 harg2 X f0 fp (landed c X (Ring.bk 5 (pt i - 1)) G) G (codesV band) _ _ _ _ W Q)
  isplitl [HW]; · iexact HW
  isplitl [HI]; · iexact HI
  isplitl [HI']; · iexact HI'
  isplitl [HO]; · iexact HO
  isplitl [HO']; · iexact HO'
  isplitl [Hh]; · iexact Hh
  isplitl [Hb]; · iexact Hb
  isplitl [HC]; · iexact HC
  isplitl [H0]; · iexact H0
  isplitl [H1]; · iexact H1
  isplitl [H2]; · iexact H2
  isplitl [H3]; · iexact H3
  iintro ⟨HW, HI, HI', HO, HO', Hh, Hb, HC, H0, H1, H2, H3⟩
  iapply HQ
  isplitl [HW]; · iexact HW
  isplitl [HI]; · iexists _; iexact HI
  isplitl [HI']; · iexact HI'
  isplitl [HO]; · iexists _; iexact HO
  isplitl [HO']; · iexact HO'
  isplitl [HV]; · iexact HV
  isplitl [Hh HhR]
  · isplitl [Hh]; · iexact Hh
    isplitr [HhR]; · iempintro
    iexact HhR
  isplitl [Hb HbR]
  · isplitl [Hb]; · iexact Hb
    isplitr [HbR]; · iempintro
    iexact HbR
  isplitl [Hl]; · iexact Hl
  isplitl [HC]; · iexact HC
  isplitl [HT]; · iexact HT
  isplitl [H0]; · iexact H0
  isplitl [H1]; · iexact H1
  isplitl [H2]; · iexact H2
  isplitl [H3]; · iexact H3
  iexact Hv

/-- From before the last point to the end. -/
theorem step_last (i : grid0.Coords) (h : pt i = 4) (arg2 : Memref sig .tc .vmem S1x256x256 .f32) (harg2 : arg2.IsWhole)
    (W : Waits sig Unit) (Q : PUnit → sProp 𝕄) :
    iprop(owes (c : Thread nD τ) 0 W ∗ fly c q X G band 4 ∗ ((someW c ∗ done c q X G band) -∗ Q ⟨⟩))
      ⊢ wp frame (wpE (defs₀ (F := F)) 𝒱₀ (c : Thread nD τ) none) Set.univ (bodyG i arg2 harg2) Q := by
  obtain ⟨R, hh0, hh1⟩ := homes_last c q X
  obtain ⟨R', hb0, hb1⟩ := blks_last c X G
  rw [show (fly c q X G band 4 : sProp 𝕄) = flyAt c q X G band 0 1 4 3 4 from rfl]
  unfold done scr flyAt
  rw [hh0, hh1, hb0, hb1]
  iintro ⟨HW, ⟨⟨%f0, HI⟩, HI', ⟨%fp, HO⟩, HO', HV, ⟨Hh, -, HhR⟩, ⟨-, Hb, HbR⟩, Hl, HC, HT, H0, H1, H2, H3, ⟨%v, Hv⟩⟩, HQ⟩
  iapply (last c q i h arg2 harg2 X f0 fp (landed c X 3 G) G G (codesV band) (k0_pay7 band) _ _ _ _ v W Q)
  isplitl [HW]; · iexact HW
  isplitl [HI]; · iexact HI
  isplitl [HO]; · iexact HO
  isplitl [HO']; · iexact HO'
  isplitl [HV]; · iexact HV
  isplitl [Hb]; · iexact Hb
  isplitl [Hl]; · iexact Hl
  isplitl [HC]; · iexact HC
  isplitl [HT]; · iexact HT
  isplitl [H0]; · iexact H0
  isplitl [H1]; · iexact H1
  isplitl [H2]; · iexact H2
  isplitl [H3]; · iexact H3
  isplitl [Hv]; · iexact Hv
  iintro ⟨HW, HI0, HO0, HO1, HV, HS0, HS1, Hh4, Hb3, Hb4, Hl, HC, HT, H0, H1, H2, H3, Hv⟩
  iapply HQ
  isplitl [HW]; · iexact HW
  isplitl [HI0 HI' HO0 HO1 HV]
  · isplitl [HI0]; · iexact HI0
    isplitl [HI']; · iexact HI'
    isplitl [HO0]; · iexact HO0
    isplitl [HO1]; · iexact HO1
    iexact HV
  isplitl [HS0]; · iexists _; iexact HS0
  isplitl [HS1]; · iexists _; iexact HS1
  isplitl [Hh Hh4 HhR]
  · isplitl [Hh]; · iexact Hh
    isplitl [Hh4]; · iexact Hh4
    iexact HhR
  isplitl [Hb3 Hb4 HbR]
  · isplitl [Hb3]; · iexact Hb3
    isplitl [Hb4]; · iexact Hb4
    iexact HbR
  isplitl [Hl]; · iexact Hl
  isplitl [HC]; · iexists _; iexact HC
  isplitl [HT]; · iexists _; iexact HT
  isplitl [H0]; · iexists _; iexact H0
  isplitl [H1]; · iexists _; iexact H1
  isplitl [H2]; · iexists _; iexact H2
  isplitl [H3]; · iexists _; iexact H3
  iexists _; iexact Hv

end Cert.KernelIdeal.Run

end
-- ==== Proof.Run.lean ====
/-
  The kernel's run: the reshape of the index, then the region — the pipeline's data over the table the index is in, the
  body obligation, what enters and leaves —, and what every final state holds.
-/
module

public import proofs.«01_k».proof.Proof.Inv
public import proofs.«01_k».proof.Proof.Gen.KernelIdeal.Launch
public import Idealize.ShloMosaic.Lib.Pipeline.Regions

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## Before the region -/

/-- The launch state. -/
abbrev s₀ : MemSt nD τ sig (Elt F) := ⟨m, fun _ => 0, ρ⟩
/-- Core `c`'s buffers at launch, -/
abbrev V₀ (c : Dev nD) : Valuation τ sig (Elt F) := fun b => (s₀ m ρ).mem ((c : Dev nD), b)
/-- and when the region is entered. -/
abbrev V (c : Dev nD) (b : Ref sig .tc) : Buf (Elt F) ((c : Thread nD τ).loc b) := StableHlo.after hostOps0 (V₀ m ρ c) b

/-- The reshape writes the table alone. -/
theorem V_arg (c : Dev nD) (b : Ref sig .tc) (hb : b ≠ main_v0) : V m ρ c b = m ((c : Thread nD τ).loc b) :=
  StableHlo.after_of_forall_not_mem (b := Proc.devRef .tc b) hostOps0 (V₀ m ρ c) fun op hop => by
    simp only [List.mem_cons, List.mem_nil_iff, or_false] at hop
    subst hop
    simp only [StableHlo.reshape_writes, Finset.mem_singleton]
    exact StableHlo.devRef_ne_of_ne hb

/-- Every word of the table is the index. -/
theorem V_table (c : Dev nD) (j : S1.Idx) : V m ρ c main_v0 j = m ((c : Thread nD τ).loc main_arg1) ValueIdx.ix0 := by
  show StableHlo.after hostOps0 (V₀ m ρ c) main_v0 j = _
  rw [StableHlo.after_cons, StableHlo.after_nil, StableHlo.reshape_result]
  exact congrArg (m ((c : Thread nD τ).loc main_arg1)) (funext fun a => a.elim0)

/-- The unscoped buffers, as device buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The table's contents and the pipeline's data -/

/-- The index is in range on every core. -/
abbrev InRange : Prop := ∀ c : Dev nD, (show BitVec 32 from m ((c : Thread nD τ).loc main_arg1) ValueIdx.ix0).toNat < 180

/-- The table's contents when the region is entered. -/
abbrev tab : pre0.Contents (Elt F) := fun k => V m ρ 0 (pre0.ref k)

theorem tab_at (k : Fin 1) (r : Rect (pre0.ref k).ty.shape) (h1 : r.shape.numel = 1) :
    (tab m ρ).at k r h1 = V m ρ 0 (pre0.ref k) (r.emb (Shape.Idx.first (h1.symm ▸ Nat.one_pos))) := rfl

/-- The block the index map names is plane `index` of the image. -/
theorem transform_tab (i : grid0.Coords) :
    cc0_transform_0 inb_S1_S1_0 numel1_S1 (tab m ρ) i = ![(show BitVec 32 from m (((0 : Dev nD) : Thread nD τ).loc main_arg1) ValueIdx.ix0).toNat, 0, 0] := by
  unfold cc0_transform_0
  refine congrArg (fun v : BitVec 32 => (![v.toNat, 0, 0] : Fin 3 → ℕ)) ?_
  exact V_table m ρ 0 _

variable (hidx : InRange m)

theorem ok_tab (hidx : InRange m) : ok0 (tab m ρ) := fun i => by
  refine ⟨fun a => ?_, Or.inl rfl⟩
  rw [transform_tab]
  have := hidx 0
  fin_cases a
  · show (_ + 1) * 1 ≤ 180; rw [Nat.mul_one]; exact this
  · show (0 + 1) * 256 ≤ 256; decide
  · show (0 + 1) * 256 ≤ 256; decide

/-- The table's contents, admissible. -/
abbrev adm : (p : Fin 1) → (pcfgs (F := F) p).Adm := fun _ => ⟨tab m ρ, ok_tab m ρ hidx⟩

/-- The band's plane, read off the image when the region is entered. -/
abbrev stg (c : Dev nD) : S1x256x256.Idx → F .f32 :=
  (((cfg0 (adm m ρ hidx 0)).win 0).blk t0_0).view.read (Elt F) (V m ρ c main_arg0)

/-- What core `c` holds before point `n`. -/
def PhiN (c : Dev nD) (n : ℕ) : sProp 𝕄 :=
  if n = 0 then start c fullShare.right (V m ρ c main_arg0) (V m ρ c main_v1)
  else if n = 5 then done c fullShare.right (V m ρ c main_arg0) (V m ρ c main_v1) (stg m ρ hidx c)
  else fly c fullShare.right (V m ρ c main_arg0) (V m ρ c main_v1) (stg m ρ hidx c) n

/-- The proof data on core `c`: the image, half of it the pipeline's to read; after each body the staging buffer as
    fetched; what is held between points. -/
def dats (p : Fin 1) (c : Dev nD) : Dat τ (Elt F) Unit ℕ (UU nD τ) ℕ (Pipeline.pin (pcfgs (F := F)) (adm m ρ hidx) p) c where
  A w := V m ρ c (Pipeline.arrRef spec0 w)
  after w t := match w with | ⟨0, _⟩ => (((cfg0 (adm m ρ hidx 0)).win 0).blk t).view.read (Elt F) (V m ρ c main_arg0)
  Φ t := PhiN m ρ hidx c t.val
  q _ := fullShare.left
  owed _ := 0

theorem before_eq (c : Dev nD) (t : Fin grid0.N) (d) :
    (dats m ρ hidx 0 c).before 0 t d = (((cfg0 (adm m ρ hidx 0)).win 0).blk t).view.read (Elt F) (V m ρ c main_arg0) :=
  (Dat.before_in_eq_fetched (dats m ρ hidx 0 c) 0 rfl (fun _ => rfl) (fun _ _ _ => rfl) (fun _ => rfl) t d).trans rfl

theorem pt_coords (t : Fin grid0.N) : pt (grid0.coords t) = t.val := by
  rcases fin_N0 t with rfl | rfl | rfl | rfl | rfl <;> decide

/-- The body over what is held: from before point `t` to before the next. -/
theorem body_step (c : Dev nD) (t : Fin grid0.N) (arg2 : Memref sig .tc .vmem S1x256x256 .f32) (harg2 : arg2.IsWhole) (q2 : PosShare TreeShare)
    (B : S1x256x256.Idx → F .f32) (hB : t.val = 0 → B = stg m ρ hidx c) (W : Waits sig Unit) (Q : PUnit → sProp 𝕄) :
    iprop(owes (c : Thread nD τ) 0 W ∗ PhiN m ρ hidx c t.val ∗ owns (c : Thread nD τ) arg2 q2 B
        ∗ ((someW c ∗ PhiN m ρ hidx c (t.val + 1) ∗ owns (c : Thread nD τ) arg2 q2 B) -∗ Q ⟨⟩))
      ⊢ wp frame (wpE (defs₀ (F := F)) 𝒱₀ (c : Thread nD τ) none) Set.univ (bodyG (grid0.coords t) arg2 harg2) Q := by
  have hN : t.val < 5 := lt_of_lt_of_eq t.isLt N_0
  unfold PhiN
  by_cases h0 : t.val = 0
  · rw [if_pos h0, if_neg (by omega), if_neg (by omega), h0, hB h0]
    iintro ⟨HW, HΦ, Ha, HQ⟩
    iapply (step_first c fullShare.right _ _ (stg m ρ hidx c) q2 (grid0.coords t) ((pt_coords t).trans h0) arg2 harg2 W Q)
    isplitl [HW]; · iexact HW
    isplitl [HΦ]; · iexact HΦ
    isplitl [Ha]; · iexact Ha
    iexact HQ
  rw [if_neg h0, if_neg (by omega), if_neg (by omega)]
  by_cases h4 : t.val = 4
  · rw [if_pos (by omega), h4]
    iintro ⟨HW, HΦ, Ha, HQ⟩
    iapply (step_last c fullShare.right _ _ (stg m ρ hidx c) (grid0.coords t) ((pt_coords t).trans h4) arg2 harg2 W Q)
    isplitl [HW]; · iexact HW
    isplitl [HΦ]; · iexact HΦ
    iintro ⟨HW, HΦ⟩
    iapply HQ
    isplitl [HW]; · iexact HW
    isplitl [HΦ]; · iexact HΦ
    iexact Ha
  · rw [if_neg (by omega)]
    iintro ⟨HW, HΦ, Ha, HQ⟩
    iapply (step_mid c fullShare.right _ _ (stg m ρ hidx c) (grid0.coords t) t.val (pt_coords t) (by omega) (by omega) arg2 harg2 W Q)
    isplitl [HW]; · iexact HW
    isplitl [HΦ]; · iexact HΦ
    iintro ⟨HW, HΦ⟩
    iapply HQ
    isplitl [HW]; · iexact HW
    isplitl [HΦ]; · iexact HΦ
    iexact Ha

/-- The pipeline's body obligation. -/
theorem body_obligation (c : Dev nD) : BodyObligation (dats m ρ hidx 0 c) (defs₀ (F := F)) 𝒱₀ () Set.univ := fun t => by
  change Fin grid0.N at t
  rw [bigSep_W0, bigSep_W0]
  rw [show (dats m ρ hidx 0 c).Φ t.castSucc = PhiN m ρ hidx c t.val from rfl, show (dats m ρ hidx 0 c).Φ t.succ = PhiN m ρ hidx c (t.val + 1) from rfl]
  unfold Dat.owesAt Pipeline.owesWithin
  rw [show (dats m ρ hidx 0 c).owed t.castSucc = 0 from rfl, show (dats m ρ hidx 0 c).owed t.succ = 0 from rfl]
  iintro ⟨HΦ, ⟨%W, %hW, HO⟩, ⟨%d0, H0⟩⟩
  rw [show (defs₀ (F := F)) .tc (Pipeline.pin (pcfgs (F := F)) (adm m ρ hidx) 0).body
      ((Pipeline.pin (pcfgs (F := F)) (adm m ρ hidx) 0).bodyArgs t ((Pipeline.pin (pcfgs (F := F)) (adm m ρ hidx) 0).slots t))
    = bodyG (grid0.coords t) (spec0_0.stage ((Pipeline.pin (pcfgs (F := F)) (adm m ρ hidx) 0).slots t 0))
        (hstage0_0 (((Pipeline.pin (pcfgs (F := F)) (adm m ρ hidx) 0).slots t 0).cast nbuf0_0)) from rfl]
  iapply (body_step m ρ hidx c t (spec0_0.stage ((Pipeline.pin (pcfgs (F := F)) (adm m ρ hidx) 0).slots t 0)) _ fullShare
    ((((cfg0 (adm m ρ hidx 0)).win 0).blk t).view.read (Elt F) (V m ρ c main_arg0))
    (fun h => by rw [show t = t0_0 from Fin.ext h]) W)
  isplitl [HO]; · iexact HO
  isplitl [HΦ]; · iexact HΦ
  isplitl [H0]
  · iapply (Entails.of_eq (congrArg (owns (c : Thread nD τ) (spec0_0.stage ((Pipeline.pin (pcfgs (F := F)) (adm m ρ hidx) 0).slots t 0)) fullShare)
      (before_eq m ρ hidx c t d0)))
    iexact H0
  iintro ⟨⟨%W', HO⟩, HΦ, H0⟩
  isplitl [HΦ]; · iexact HΦ
  isplitl [HO]
  · iexists W'; isplitr; · ipureintro; exact fun _ _ => Or.inl trivial
    iexact HO
  iexact H0

/-! ## Entering and leaving the region -/

section Ends

variable (c : Dev nD) (q : PosShare TreeShare)
variable (X : Buf (Elt F) ((c : Thread nD τ).loc main_arg0)) (G : Buf (Elt F) ((c : Thread nD τ).loc main_v1))
variable (band : S1x256x256.Idx → F .f32)

theorem homes_all : (homes c q X 5 : sProp 𝕄) = (((c : Thread nD τ).loc main_arg0) ↦{q} X) := by
  rw [img_eq]; unfold homes
  exact bigSep_congr fun b _ => by rw [if_neg (by have := b.isLt; omega)]
theorem blks_none : (blks c X G 0 : sProp 𝕄) = bigSep Finset.univ fun b => blkP c b G := by
  unfold blks
  exact bigSep_congr fun b _ => by rw [if_neg (by omega), if_neg (by omega)]
theorem blks_all (v : S1x256x256.Idx → F .f32) : (blks c X G 6 : sProp 𝕄) = bigSep Finset.univ fun b => blkP c b (outV X v) := by
  unfold blks
  refine bigSep_congr fun b _ => ?_
  have := b.isLt
  rw [if_neg (show ¬ b.val + 1 = 6 by omega), if_pos (show b.val + 1 < 6 by omega)]
  exact landed_out c X v b G

/-- A scratch buffer at something, owned at something, -/
theorem own_some (r : Ref sig .tc) :
    (iprop(∃ f : Buf (Elt F) ((c : Thread nD τ).loc r), ((c : Thread nD τ).loc r) ↦{fullShare} f) : sProp 𝕄)
      ⊢ ∃ Y, owns (c : Thread nD τ) (Memref.whole r) fullShare Y := by
  iintro ⟨%f, H⟩
  iexists f
  irw [owns_whole_eq]
  iexists f; isplitr; · ipureintro; rfl
  iexact H
/-- and back. -/
theorem some_own (r : Ref sig .tc) :
    iprop(∃ Y, owns (c : Thread nD τ) (Memref.whole r) fullShare Y)
      ⊢ (iprop(∃ f : Buf (Elt F) ((c : Thread nD τ).loc r), ((c : Thread nD τ).loc r) ↦{fullShare} f) : sProp 𝕄) := by
  iintro ⟨%Y, H⟩
  ihave H := (Entails.of_eq (owns_whole_eq (c : Thread nD τ) r fullShare Y)) $$ H
  icases H with ⟨%f, -, H⟩
  iexists f; iexact H

/-- What enters the invariant is what is held before the first point, -/
theorem enter : iprop(((((c : Thread nD τ).loc main_arg0) ↦{q} X) ∗ (((c : Thread nD τ).loc main_v1) ↦{fullShare} G) ∗ cells c)
      ∗ Pipeline.scopedRest (Ix := Unit) (Name := ℕ) (U := UU nD τ) (Lvl := ℕ) (Val := Elt F) spec0 c) ⊢ (start c q X G : sProp 𝕄) := by
  unfold start scr
  rw [homes_all, blks_none, scopedRest0_eq]
  iintro ⟨⟨Hi, Ho, Hc⟩, H0, H1, H2, H3, H4, H5, ⟨%f, H6⟩, H7⟩
  ihave Ho := (res_split c G) $$ Ho
  icases Ho with ⟨Hb, Hl⟩
  ihave H6 := (Entails.of_eq (buf_split c f)) $$ H6
  icases H6 with ⟨HS0, HS1⟩
  isplitl [Hc]; · iexact Hc
  isplitl [HS0]; · iexists f; iexact HS0
  isplitl [HS1]; · iexists f; iexact HS1
  isplitl [Hi]; · iexact Hi
  isplitl [Hb]; · iexact Hb
  isplitl [Hl]; · iexact Hl
  isplitl [H0]; · iapply (own_some c cc0_scratch0); iexact H0
  isplitl [H1]; · iapply (own_some c cc0_scratch1); iexact H1
  isplitl [H2]; · iapply (own_some c cc0_scratch2); iexact H2
  isplitl [H3]; · iapply (own_some c cc0_scratch3); iexact H3
  isplitl [H4]; · iapply (own_some c cc0_scratch4); iexact H4
  isplitl [H5]; · iapply (own_some c cc0_scratch5); iexact H5
  iapply (own_some c cc0_scratch7); iexact H7
/-- and what is held at the end leaves it. -/
theorem leave : (done c q X G band : sProp 𝕄)
    ⊢ iprop(((((c : Thread nD τ).loc main_arg0) ↦{q} X) ∗ (((c : Thread nD τ).loc main_v1) ↦{fullShare} outV X (lastV band))) ∗ cells c
      ∗ Pipeline.scopedRest (Ix := Unit) (Name := ℕ) (U := UU nD τ) (Lvl := ℕ) (Val := Elt F) spec0 c) := by
  unfold done scr
  rw [homes_all, blks_all c X G (lastV band), scopedRest0_eq]
  iintro ⟨Hc, HS0, HS1, Hi, Hb, Hl, H0, H1, H2, H3, H4, H5, H7⟩
  ihave Hl := (last_out c X (lastV band)) $$ Hl
  ihave Ho := (res_join c (outV X (lastV band))) $$ [Hb Hl]
  · isplitl [Hb]; · iexact Hb
    iexact Hl
  ihave H6 := (buf_join c) $$ [HS0 HS1]
  · isplitl [HS0]; · iexact HS0
    iexact HS1
  isplitl [Hi Ho]
  · isplitl [Hi]; · iexact Hi
    iexact Ho
  isplitl [Hc]; · iexact Hc
  isplitl [H0]; · iapply (some_own c cc0_scratch0); iexact H0
  isplitl [H1]; · iapply (some_own c cc0_scratch1); iexact H1
  isplitl [H2]; · iapply (some_own c cc0_scratch2); iexact H2
  isplitl [H3]; · iapply (some_own c cc0_scratch3); iexact H3
  isplitl [H4]; · iapply (some_own c cc0_scratch4); iexact H4
  isplitl [H5]; · iapply (some_own c cc0_scratch5); iexact H5
  isplitl [H6]; · iexact H6
  iapply (some_own c cc0_scratch7); iexact H7

end Ends

/-- The kernel's own counters. -/
abbrev osem : Fin 5 → SemLoc sig := fun | 0 => .dma 1 | 1 => .dma 2 | 2 => .dma 3 | 3 => .dma 4 | 4 => .dma 5
theorem ownSemFacts : Pipeline.OwnSemFacts spec0 osem := by decide
theorem ownSems0_eq (c : Dev nD) :
    (Pipeline.ownSems0 (Ix := Unit) (Name := ℕ) (U := UU nD τ) (Lvl := ℕ) (Val := Elt F) (τ := τ) osem c : sProp 𝕄) = cells c :=
  Pipeline.ownSems0_eq_of_list c osem [0, 1, 2, 3, 4] (by decide) (by decide)

/-- The pipeline's array is its half of the image, at every point. -/
theorem arrays_eq (c : Dev nD) (t : ℕ) :
    ((dats m ρ hidx 0 c).arrays ((dats m ρ hidx 0 c).arrAt · t) : sProp 𝕄) = (((c : Thread nD τ).loc main_arg0) ↦{fullShare.left} V m ρ c main_arg0) := by
  unfold Dat.arrays
  rw [bigSep_W0]
  dsimp only
  rw [(dats m ρ hidx 0 c).arrAt_in 0 rfl t]
  show (((c : Thread nD τ).loc main_arg0) ↦[(spec0 0).arr.view.set]{fullShare.left} V m ρ c main_arg0 : sProp 𝕄) = _
  rw [show (spec0 0).arr.view.set = Finset.univ from (arr_whole0 0).set_eq_univ]

/-- The launch element. -/
def u₀ : UU nD τ := (initOf (Pipeline.cells (Pipeline.pin (pcfgs (F := F)) (adm m ρ hidx)) (cellOf_inj (adm m ρ hidx)))
  (Pipeline.launchToks (Pipeline.pin (pcfgs (F := F)) (adm m ρ hidx)) (cellOf_inj (adm m ρ hidx))), 1)

abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)

/-- The host segment: the reshape. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- What the region leaves: the arguments as they were, the result. -/
abbrev Tₙ (c : Dev nD) : sProp 𝕄 :=
  iprop((((c : Thread nD τ).loc main_arg0) ↦{fullShare} V m ρ c main_arg0) ∗ (((c : Thread nD τ).loc main_arg1) ↦{fullShare} V m ρ c main_arg1)
    ∗ (((c : Thread nD τ).loc main_v1) ↦{fullShare} outV (V m ρ c main_arg0) (lastV (stg m ρ hidx c))))

include hidx in
/-- The unscoped buffers, listed. -/
theorem unscoped_split (c : Dev nD) :
    (unscopedBufs c (V m ρ c) : sProp 𝕄) = iprop((((c : Thread nD τ).loc main_arg0) ↦{fullShare} V m ρ c main_arg0)
      ∗ Pipeline.prefHeld pre0 c (fun _ => fullShare) (fun k => V m ρ c (pre0.ref k))
      ∗ (((c : Thread nD τ).loc main_arg1) ↦{fullShare} V m ρ c main_arg1) ∗ (((c : Thread nD τ).loc main_v1) ↦{fullShare} V m ρ c main_v1)) := by
  rw [Pipeline.unscopedBufs_split (Pipeline.pin (pcfgs (F := F)) (adm m ρ hidx)) (p := 0) winFacts0.arr_unscoped winFacts0.arr_inj c (V m ρ c),
    bigSep_W0, Pipeline.unscopedRest_split preFacts0, unscopedRestP0_eq]

-- the segments' lemmas are stated over the configurations at the pinned tables: unification unfolds plain definitions
set_option backward.isDefEq.respectTransparency.types false in
/-- The region. -/
def reg0 : Pipeline.RegionSeg (pcfgs (F := F)) (adm m ρ hidx) (dats m ρ hidx) () defs₀ 𝒱₀ L lv 0 where
  win := (launch0 (F := F)).win.to₀
  block_pos := (launch0 (F := F)).block_pos
  stage_whole := (launch0 (F := F)).stage_whole
  K := Fin 5
  osem := osem
  ho := ownSemFacts
  hbody c := (body_obligation m ρ hidx c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ hidx c ∗ R c)
  X c := iprop((((c : Thread nD τ).loc main_arg0) ↦{fullShare.right} V m ρ c main_arg0) ∗ (((c : Thread nD τ).loc main_v1) ↦{fullShare} V m ρ c main_v1) ∗ cells c)
  Y c := iprop((((c : Thread nD τ).loc main_arg0) ↦{fullShare.right} V m ρ c main_arg0) ∗ (((c : Thread nD τ).loc main_v1) ↦{fullShare} outV (V m ρ c main_arg0) (lastV (stg m ρ hidx c))))
  Z c := ((c : Thread nD τ).loc main_arg1) ↦{fullShare} V m ρ c main_arg1
  hentry c := by
    rw [show StableHlo.held (c : Thread nD τ) ucRefs (StableHlo.after hostOps0 (V₀ m ρ c)) = unscopedBufs c (V m ρ c) from (unscopedBufs_held c _).symm,
      ownSems0_eq, unscoped_split m ρ hidx c]
    rw [show ((dats m ρ hidx 0 c).arrays ((dats m ρ hidx 0 c).arrAt · 0) : sProp 𝕄) = _ from arrays_eq m ρ hidx c 0]
    rw [show (fun k => V m ρ c (pre0.ref k)) = tab m ρ from by rw [Subsingleton.elim c 0]]
    iintro ⟨⟨⟨H0, Hp, H1, H2⟩, HO⟩, Hos, -⟩
    ihave H0 := (pointsTo_share (PosShare.mem_left_op_right fullShare)).1 $$ H0
    icases H0 with ⟨Hl, Hr⟩
    imodintro
    isplitl [Hl]; · iexact Hl
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [Hr H2 Hos]
    · isplitl [Hr]; · iexact Hr
      isplitl [H2]; · iexact H2
      iexact Hos
    iexact H1
  hin c := by
    rw [show (dats m ρ hidx 0 c).Φ 0 = start c fullShare.right (V m ρ c main_arg0) (V m ρ c main_v1) from rfl]
    iintro ⟨HX, -, Hr⟩
    iapply (enter c fullShare.right (V m ρ c main_arg0) (V m ρ c main_v1))
    isplitl [HX]; · iexact HX
    iexact Hr
  hout c := by
    rw [ownSems0_eq, show (dats m ρ hidx 0 c).Φ (Fin.last (Pipeline.pin (pcfgs (F := F)) (adm m ρ hidx) 0).N)
      = done c fullShare.right (V m ρ c main_arg0) (V m ρ c main_v1) (stg m ρ hidx c) from rfl]
    exact leave c fullShare.right (V m ρ c main_arg0) (V m ρ c main_v1) (stg m ρ hidx c)
  hexit c := by
    rw [show ((dats m ρ hidx 0 c).arrays ((dats m ρ hidx 0 c).arrAt · (Pipeline.pin (pcfgs (F := F)) (adm m ρ hidx) 0).N) : sProp 𝕄) = _ from arrays_eq m ρ hidx c _]
    iintro ⟨Ha, HO, ⟨Hr, H2⟩, HZ⟩
    ihave H0 := (pointsTo_share (PosShare.mem_left_op_right fullShare)).2 $$ [Ha Hr]
    · isplitl [Ha]; · iexact Ha
      iexact Hr
    imodintro
    isplitr [HO]
    · isplitl [H0]; · iexact H0
      isplitl [HZ]; · iexact HZ
      iexact H2
    · unfold Pipeline.Dat.owesAt Pipeline.owesWithin
      icases HO with ⟨%W, -, HO⟩; iexists W; iexact HO

abbrev segs : List (Pipeline.Seg (pcfgs (F := F)) (adm m ρ hidx) (dats m ρ hidx) () defs₀ 𝒱₀ L lv) := [.host (seg0 m ρ), .region (reg0 m ρ hidx)]

/-- What every final state holds: the arguments as they were, and the image with the last plane appended. -/
def Holds (r : PUnit × MemSt nD τ sig (Elt F)) : Prop := ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_v1) = outV (m ((c : Thread nD τ).loc main_arg0)) (lastV (stg m ρ hidx c))

set_option backward.isDefEq.respectTransparency.types false in
/-- Every execution of the program from counters at zero, the index in range, terminates without fault in such a state,
    its counters at zero. -/
theorem run_main : θ_run defs (onTc (τ := τ) (main (F := F))) (s₀ m ρ) (fun r => Holds m ρ hidx r ∧ r.2.sem = fun _ => 0) :=
  Pipeline.θ_run_regions_kit_sems (pcfgs (F := F)) (adm m ρ hidx) (dats m ρ hidx) () (cellOf_inj (adm m ρ hidx)) EP defs₀ 𝒱₀ L lv m ρ main (segs m ρ hidx)
    (fun c Q => by rw [main_segs (adm m ρ hidx) (dats m ρ hidx) () 𝒱₀ L lv (seg0 m ρ) (reg0 m ρ hidx) rfl c])
    (by simp only [Pipeline.Seg.pipes_host, Pipeline.Seg.pipes_region, Pipeline.Seg.pipes_nil]; decide) (O₀ := 0) (hL := fun _ _ => rfl) (G := fun _ => iprop(emp)) (u₀ := u₀ m ρ hidx)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ hidx)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_arg0) = m ((c : Thread nD τ).loc main_arg0)
      ∧ s.mem ((c : Thread nD τ).loc main_arg1) = m ((c : Thread nD τ).loc main_arg1)
      ∧ s.mem ((c : Thread nD τ).loc main_v1) = outV (m ((c : Thread nD τ).loc main_arg0)) (lastV (stg m ρ hidx c)))
    (hfin := fun c s' => by
      dsimp only [Tₙ]; rw [V_arg m ρ c main_arg0 (by decide), V_arg m ρ c main_arg1 (by decide)]
      iintro ⟨⟨H0, H1, H2⟩, HSI⟩
      icombine HSI H0 gives %h0
      icombine HSI H1 gives %h1
      icombine HSI H2 gives %h2
      imodintro
      isplitr; · ipureintro; exact ⟨Buf.eq_of_forall_mem_univ h0, Buf.eq_of_forall_mem_univ h1, Buf.eq_of_forall_mem_univ h2⟩
      iexact HSI)
    (hQ := fun _ h hz => ⟨h, funext fun g => hz g (.inr (by revert g; decide))⟩)

end Cert.KernelIdeal.Run

end
-- ==== Proof.Range.lean ====
/-
  The precondition says that the index is in range.
-/
module

public import proofs.«01_k».proof.Proof.Run
public import proofs.«01_k».proof.Proof.Printed.Run
public import proofs.«01_k».proof.Defs

@[expose] public section

noncomputable section

namespace Cert.Proof

open Idealize.ShloMosaic

/-- A word that is signed at least 0 and below 180 is below 180. -/
theorem toNat_lt_180 (v : BitVec 32) (h : BitVec.ofBool ((0#32 : BitVec 32).sle v) &&& BitVec.ofBool (v.slt 180#32) = 1#1) : v.toNat < 180 := by
  have h0 : (0#32 : BitVec 32).sle v = true := by
    cases e : (0#32 : BitVec 32).sle v
    · rw [e] at h; revert h; cases v.slt 180#32 <;> decide
    · rfl
  have h1 : v.slt 180#32 = true := by
    cases e : v.slt 180#32
    · rw [e] at h; revert h; cases (0#32 : BitVec 32).sle v <;> decide
    · rfl
  rw [BitVec.sle_iff_toInt_le] at h0
  rw [BitVec.slt_iff_toInt_lt] at h1
  have e0 : (0#32 : BitVec 32).toInt = 0 := by decide
  have e1 : (180#32 : BitVec 32).toInt = 180 := by decide
  rw [e0] at h0; rw [e1] at h1
  rw [BitVec.toInt_eq_toNat_cond] at h0 h1
  split at h0 <;> omega

/-- The predicate at an image and an index. -/
theorem in_range {F : FTy → Type} [FloatOps F] [Cert.Pre_index_names_band.Facts] (x : FVec F Cert.Pre_index_names_band.S180x256x256 .f32) (i : IVec Cert.Pre_index_names_band.S_ 32)
    (h : Cert.Pre_index_names_band.fn (F := F) x i = fun _ => 1#1) : (i ValueIdx.ix0).toNat < 180 :=
  toNat_lt_180 _ (congrFun h ValueIdx.ix0)

end Cert.Proof

end
-- ==== Proof.Codes.lean ====
/-
  The codes of a band, over the extended reals: kernel and reference quantize alike, and every code is a number below
  256.
-/
module

public import proofs.«01_k».proof.Proof.Values
public import proofs.«01_k».proof.Proof.Gen.ReferenceIdeal.Run
public import Idealize.ShloMosaic.Lib.Pointwise
public import Idealize.ShloMosaic.Lib.IdealHost

@[expose] public section

set_option maxRecDepth 16384

noncomputable section

namespace Cert.Proof

open Idealize.ShloMosaic

/-- The least and the largest value of a band. -/
def lo (B : Fin 256 → Fin 256 → EReal) : EReal :=
  Finset.fold min (Ideal.ofBits .f32 2139095040#32) (fun x : Fin 256 × Fin 256 => B x.1 x.2) Finset.univ
def hi (B : Fin 256 → Fin 256 → EReal) : EReal :=
  Finset.fold max (Ideal.ofBits .f32 4286578688#32) (fun x : Fin 256 × Fin 256 => B x.1 x.2) Finset.univ

/-- The code of the band's value at `(i, j)`, as an extended real. -/
def quant (B : Fin 256 → Fin 256 → EReal) (i j : Fin 256) : EReal :=
  min (Ideal.ofBits .f32 1132396544#32) (max 0 (Ideal.liftRound Ideal.roundHalfEven
    (Ideal.div (B i j - lo B) (max (hi B - lo B) (Ideal.ofBits .f32 730643660#32)) * Ideal.ofBits .f32 1132396544#32)))

theorem bits_255 : Ideal.ofBits .f32 1132396544#32 = ((255 : ℝ) : EReal) := by
  simp [Ideal.ofBits, Ideal.ieee, -EReal.coe_mul]; norm_num

/-- A rounded value clipped to 0 … 255 is a number below 256. -/
theorem clip_round (z : EReal) : ∃ k : Fin 256, min ((255 : ℝ) : EReal) (max 0 (Ideal.liftRound Ideal.roundHalfEven z)) = ((k.val : ℝ) : EReal) := by
  induction z using EReal.rec with
  | bot => exact ⟨0, by simp [Ideal.liftRound_bot]⟩
  | top => exact ⟨255, by simp [Ideal.liftRound_top]⟩
  | coe r =>
    rw [Ideal.liftRound_coe]
    generalize Ideal.roundHalfEven r = n
    refine ⟨⟨(min 255 (max 0 n)).toNat, by omega⟩, ?_⟩
    have h : (((min 255 (max 0 n)).toNat : ℕ) : ℝ) = ((min 255 (max 0 n) : ℤ) : ℝ) := by
      have : (((min 255 (max 0 n)).toNat : ℕ) : ℤ) = min 255 (max 0 n) := Int.toNat_of_nonneg (by omega)
      exact_mod_cast this
    show _ = ((((min 255 (max 0 n)).toNat : ℕ) : ℝ) : EReal)
    rw [h, Int.cast_min, Int.cast_max, ← EReal.coe_zero, ← EReal.coe_strictMono.monotone.map_max, ← EReal.coe_strictMono.monotone.map_min]
    norm_num

theorem exists_lev (B : Fin 256 → Fin 256 → EReal) (i j : Fin 256) : ∃ k : Fin 256, quant B i j = ((k.val : ℝ) : EReal) := by
  rw [quant, bits_255]; exact clip_round _

/-- The code as a number. -/
def lev (B : Fin 256 → Fin 256 → EReal) (i j : Fin 256) : Fin 256 := (exists_lev B i j).choose

theorem quant_lev (B : Fin 256 → Fin 256 → EReal) (i j : Fin 256) : quant B i j = (((lev B i j).val : ℝ) : EReal) := (exists_lev B i j).choose_spec

/-- A number below 256, cast to an integer. -/
theorem fptoui_nat (k : Fin 256) : Ideal.fptoui 8 ((k.val : ℝ) : EReal) = BitVec.ofNat 8 k.val := by
  rw [Ideal.fptoui, Ideal.toIntClamped_coe, if_pos (Nat.cast_nonneg _), Int.floor_natCast]
  have := k.isLt
  rw [show max (0 : ℤ) (min ((2 ^ 8 : ℕ) - 1) (k.val : ℤ)) = (k.val : ℤ) by norm_num; omega]
  exact BitVec.ofInt_natCast 8 k.val
theorem fptosi_nat (k : Fin 256) : Ideal.fptosi 32 ((k.val : ℝ) : EReal) = BitVec.ofNat 32 k.val := by
  rw [Ideal.fptosi, Ideal.toIntClamped_coe, if_pos (Nat.cast_nonneg _), Int.floor_natCast]
  have := k.isLt
  rw [show max (-(2 ^ (32 - 1) : ℕ) : ℤ) (min ((2 ^ (32 - 1) : ℕ) - 1) (k.val : ℤ)) = (k.val : ℤ) by norm_num; omega]
  exact BitVec.ofInt_natCast 32 k.val

/-- The kernel's codes. -/
theorem pay4_at (band : FVec Ideal Cert.KernelIdeal.S1x256x256 .f32) (i j : Fin 256) :
    Cert.KernelIdeal.Gen.k0_pay4 (F := Ideal) band (ix2 i j) = quant (fun a b => band (ix3 0 a b)) i j := by
  pointwise [Cert.KernelIdeal.Gen.k0_pay4]
  rfl

/-- The reference's codes of a band, as printed. -/
def refCodes (X : FVec Ideal Cert.ReferenceIdeal.S256x256 .f32) : IVec Cert.ReferenceIdeal.S256x256 32 :=
  open Cert.ReferenceIdeal Cert.ReferenceIdeal.Gen in
  fptosi 32 (minimumf (broadcastInDim S256x256 ![] bcast_S_S256x256 (sitofp .f32 (constantI S_ 32 255#32))) (maximumf (broadcastInDim S256x256 ![] bcast_S_S256x256 (sitofp .f32 (constantI S_ 32 0#32))) (Host.roundeven (mulf (Host.divf (subf X (broadcastInDim S256x256 ![] bcast_S_S256x256 (Host.reduce FloatOps.minimumf X (constant S_ .f32 0x7F800000#32) reducesTo_S256x256_S_d0_1 h_S_))) (broadcastInDim S256x256 ![] bcast_S_S256x256 (maximumf (subf (Host.reduce FloatOps.maximumf X (constant S_ .f32 0xFF800000#32) reducesTo_S256x256_S_d0_1 h_S_) (Host.reduce FloatOps.minimumf X (constant S_ .f32 0x7F800000#32) reducesTo_S256x256_S_d0_1 h_S_)) (constant S_ .f32 0x2B8CBCCC#32)))) (broadcastInDim S256x256 ![] bcast_S_S256x256 (constant S_ .f32 0x437F0000#32))))))

theorem sitofp_255 : (FloatOps.sitofp (F := Ideal) .f32 255#32) = ((255 : ℝ) : EReal) :=
  congrArg (fun n : ℤ => ((n : ℝ) : EReal)) (show (255#32 : BitVec 32).toInt = 255 by decide) |>.trans (by norm_num)
theorem sitofp_0 : (FloatOps.sitofp (F := Ideal) .f32 0#32) = (0 : EReal) :=
  congrArg (fun n : ℤ => ((n : ℝ) : EReal)) (show (0#32 : BitVec 32).toInt = 0 by decide) |>.trans (by norm_num)
theorem fptosi_ideal (x : Ideal .f32) : FloatOps.fptosi 32 x = Ideal.fptosi 32 x := rfl

theorem refCodes_at (X : FVec Ideal Cert.ReferenceIdeal.S256x256 .f32) (i j : Fin 256) :
    refCodes X (ix2 i j) = BitVec.ofNat 32 (lev (fun a b => X (ix2 a b)) i j).val := by
  rw [← fptosi_nat, ← quant_lev, quant, lo, hi, bits_255]
  pointwise [refCodes]
  rw [bits_255, sitofp_255, sitofp_0, fptosi_ideal]

end Cert.Proof

end
-- ==== Proof.Counts.lean ====
/-
  The kernel's four counts over the extended reals: after the four chunks each is the number of positions whose code and
  whose neighbour's code, taken cyclically, are the pair.
-/
module

public import proofs.«01_k».proof.Proof.Codes

@[expose] public section

set_option maxRecDepth 16384

noncomputable section

namespace Cert.Proof

open Idealize.ShloMosaic
open Cert.KernelIdeal Cert.KernelIdeal.Gen Cert.KernelIdeal.Run

/-! ### Natural numbers among the extended reals -/

/-- A natural number as an extended real. -/
def ofN (n : ℕ) : EReal := ((n : ℝ) : EReal)

theorem ofN_zero : ofN 0 = 0 := by simp [ofN]
theorem ofN_one : ofN 1 = 1 := by simp [ofN]
theorem ofN_add (a b : ℕ) : ofN (a + b) = ofN a + ofN b := by simp [ofN]
theorem ofN_inj {a b : ℕ} : ofN a = ofN b ↔ a = b := by simp [ofN]
theorem ofN_sum {ι : Type} (s : Finset ι) (f : ι → ℕ) : ∑ i ∈ s, ofN (f i) = ofN (∑ i ∈ s, f i) := by
  classical
  induction s using Finset.induction_on with
  | empty => simp [ofN_zero]
  | insert a s h ih => rw [Finset.sum_insert h, Finset.sum_insert h, ih, ofN_add]

/-- One where both hold, and nothing else. -/
def both (a l b m : Fin 256) : ℕ := if a = l ∧ b = m then 1 else 0

theorem hot_mul (a l b m : Fin 256) : (if a = l then (1 : EReal) else 0) * (if b = m then 1 else 0) = ofN (both a l b m) := by
  unfold both
  by_cases h : a = l <;> by_cases h' : b = m <;> simp [h, h', ofN_zero, ofN_one]

/-! ### One chunk -/

/-- The one-hot value of a code at a level. -/
theorem hot8 (c l : Fin 256) : Scalar.select (IntOp.cmpi .ne (BitVec.ofNat 8 c.val) (BitVec.setWidth 8 (BitVec.ofNat 32 l.val)))
    (Ideal.ofBits .fp8e4m3 0#8) (Ideal.ofBits .fp8e4m3 56#8) = if c = l then (1 : EReal) else 0 := by
  have e0 : Ideal.ofBits .fp8e4m3 0#8 = 0 := by simp [Ideal.ofBits, Ideal.e4m3fn]
  have e1 : Ideal.ofBits .fp8e4m3 56#8 = 1 := by
    simp [Ideal.ofBits, Ideal.e4m3fn, -EReal.coe_mul]
    norm_num
  have hc := c.isLt
  have hl := l.isLt
  have hw : BitVec.ofNat 8 c.val = BitVec.setWidth 8 (BitVec.ofNat 32 l.val) ↔ c = l := by
    rw [← BitVec.toNat_inj, BitVec.toNat_setWidth, BitVec.toNat_ofNat, BitVec.toNat_ofNat, Fin.ext_iff]
    omega
  rw [e0, e1]
  by_cases h : c = l
  · rw [if_pos h]
    simp [Scalar.select, IntOp.cmpi, hw.2 h]
  · rw [if_neg h]
    have hne : (BitVec.ofNat 8 c.val != BitVec.setWidth 8 (BitVec.ofNat 32 l.val)) = true := bne_iff_ne.2 (mt hw.1 h)
    simp only [Scalar.select, IntOp.cmpi, hne]
    exact if_pos rfl

/-- The sum over the positions of a chunk of the products of one-hot values. -/
theorem hot_sum (A B : Fin 16384 → BitVec 8) (f g : Fin 64 → Fin 256 → Fin 256) (l m : Fin 256)
    (hA : ∀ (i : Fin 64) (c : Fin 256) (x : Fin 16384), x.val = i.val * 256 + c.val → A x = BitVec.ofNat 8 (f i c).val)
    (hB : ∀ (i : Fin 64) (c : Fin 256) (x : Fin 16384), x.val = i.val * 256 + c.val → B x = BitVec.ofNat 8 (g i c).val) :
    ∑ x : Fin 16384, Scalar.select (IntOp.cmpi .ne (A x) (BitVec.setWidth 8 (BitVec.ofNat 32 l.val)))
        (Ideal.ofBits .fp8e4m3 0#8) (Ideal.ofBits .fp8e4m3 56#8)
      * Scalar.select (IntOp.cmpi .ne (B x) (BitVec.setWidth 8 (BitVec.ofNat 32 m.val)))
        (Ideal.ofBits .fp8e4m3 0#8) (Ideal.ofBits .fp8e4m3 56#8)
      = ofN (∑ i : Fin 64, ∑ c : Fin 256, both (f i c) l (g i c) m) := by
  refine (Fin.sum_univ_tiles 64 256 rfl _).trans ?_
  rw [← ofN_sum]
  refine Finset.sum_congr rfl fun i _ => ?_
  rw [← ofN_sum]
  refine Finset.sum_congr rfl fun c _ => ?_
  rw [hA i c _ rfl, hB i c _ rfl, hot8, hot8, hot_mul]

theorem read_row {r : S1x64x256.Idx → BitVec 8} {f : Fin 64 → Fin 256 → Fin 256} (hr : ∀ i c, r (ix3 0 i c) = BitVec.ofNat 8 (f i c).val)
    (i x : Fin 64) (c y : Fin 256) (hx : x.val = i.val) (hy : y.val = c.val) : r (ix3 0 x y) = BitVec.ofNat 8 (f i c).val := by
  obtain rfl := Fin.ext hx
  obtain rfl := Fin.ext hy
  exact hr _ _

theorem val_add_one (c : Fin 256) : (c + 1).val = (c.val + 1) % 256 := Fin.val_add c 1
theorem val_sub_one (c : Fin 256) : (c - 1).val = (255 + c.val) % 256 := Fin.sub_def c 1 ▸ rfl

section Steps

variable (r r' : S1x64x256.Idx → BitVec 8) (f g : Fin 64 → Fin 256 → Fin 256)
  (hr : ∀ i c, r (ix3 0 i c) = BitVec.ofNat 8 (f i c).val) (hr' : ∀ i c, r' (ix3 0 i c) = BitVec.ofNat 8 (g i c).val)
  (a : FVec Ideal S256x256 .f32) (l m : Fin 256)

include hr in
theorem step0_at : step0 (F := Ideal) r a (ix2 l m) = a (ix2 l m) + ofN (∑ i : Fin 64, ∑ c : Fin 256, both (f i c) l (f i (c + 1)) m) := by
  pointwise [step0, k0_pay13, k0_pay12, k0_pay9, k0_pay8]
  refine congrArg (a (ix2 l m) + ·) (hot_sum _ _ f (fun i c => f i (c + 1)) l m (fun i c x hx => ?_) (fun i c x hx => ?_))
  · exact read_row hr _ _ _ _ (by dsimp only; omega) (by dsimp only; omega)
  · have := val_add_one c
    split
    · exact read_row hr _ _ _ _ (by dsimp only; omega) (by dsimp only; omega)
    · exact read_row hr _ _ _ _ (by dsimp only; omega) (by dsimp only; omega)

include hr hr' in
theorem step1_at : step1 (F := Ideal) r r' a (ix2 l m) = a (ix2 l m) + ofN (∑ i : Fin 64, ∑ c : Fin 256, both (f i c) l (g i (c + 1)) m) := by
  pointwise [step1, k0_pay1, k0_pay14, k0_pay12, k0_pay10, k0_pay9, k0_pay8]
  refine congrArg (a (ix2 l m) + ·) (hot_sum _ _ f (fun i c => g i (c + 1)) l m (fun i c x hx => ?_) (fun i c x hx => ?_))
  · exact read_row hr _ _ _ _ (by dsimp only; omega) (by dsimp only; omega)
  · have := val_add_one c
    split
    · exact read_row hr' _ _ _ _ (by dsimp only; omega) (by dsimp only; omega)
    · exact read_row hr' _ _ _ _ (by dsimp only; omega) (by dsimp only; omega)

include hr hr' in
theorem step2_at : step2 (F := Ideal) r r' a (ix2 l m) = a (ix2 l m) + ofN (∑ i : Fin 64, ∑ c : Fin 256, both (f i c) l (g i c) m) := by
  pointwise [step2, k0_pay2, k0_pay12, k0_pay10, k0_pay9, k0_pay8]
  refine congrArg (a (ix2 l m) + ·) (hot_sum _ _ f g l m (fun i c x hx => ?_) (fun i c x hx => ?_))
  · exact read_row hr _ _ _ _ (by dsimp only; omega) (by dsimp only; omega)
  · exact read_row hr' _ _ _ _ (by dsimp only; omega) (by dsimp only; omega)

include hr hr' in
theorem step3_at : step3 (F := Ideal) r r' a (ix2 l m) = a (ix2 l m) + ofN (∑ i : Fin 64, ∑ c : Fin 256, both (f i c) l (g i (c - 1)) m) := by
  pointwise [step3, k0_pay3, k0_pay12, k0_pay11, k0_pay10, k0_pay9, k0_pay8]
  refine congrArg (a (ix2 l m) + ·) (hot_sum _ _ f (fun i c => g i (c - 1)) l m (fun i c x hx => ?_) (fun i c x hx => ?_))
  · exact read_row hr _ _ _ _ (by dsimp only; omega) (by dsimp only; omega)
  · have := val_sub_one c
    split
    · exact read_row hr' _ _ _ _ (by dsimp only; omega) (by dsimp only; omega)
    · exact read_row hr' _ _ _ _ (by dsimp only; omega) (by dsimp only; omega)

end Steps

/-! ### The code buffer of a band -/

/-- The values of a band by row and column, and the codes as numbers. -/
def vals (band : FVec Ideal S1x256x256 .f32) : Fin 256 → Fin 256 → EReal := fun a b => band (ix3 0 a b)
def codes (band : FVec Ideal S1x256x256 .f32) : Fin 256 → Fin 256 → Fin 256 := lev (vals band)

theorem pay4_code (band : FVec Ideal S1x256x256 .f32) (i j : Fin 256) : k0_pay4 (F := Ideal) band (ix2 i j) = ofN (codes band i j).val :=
  (pay4_at band i j).trans (quant_lev _ i j)

theorem fptoui_code (k : Fin 256) : FloatOps.fptoui (F := Ideal) (φ := .f32) 8 (ofN k.val) = BitVec.ofNat 8 k.val := fptoui_nat k

theorem pay5_at (band : FVec Ideal S1x256x256 .f32) (i j : Fin 256) :
    k0_pay5 (F := Ideal) band (ix3 0 i j) = BitVec.ofNat 8 (codes band i j).val := by
  pointwise [k0_pay5]
  rw [pay4_code, fptoui_code]

theorem pay6_at (band : FVec Ideal S1x256x256 .f32) (i j : Fin 256) :
    k0_pay6 (F := Ideal) band (ix3 0 i j) = BitVec.ofNat 8 (codes band (i + 1) j).val := by
  pointwise [k0_pay6]
  have := val_add_one i
  rw [← fptoui_code, ← pay4_code]
  refine congrArg (FloatOps.fptoui (F := Ideal) (φ := .f32) 8) ?_
  split
  · exact congrArg (fun x => k0_pay4 (F := Ideal) band (ix2 x j)) (Fin.ext (by dsimp only; omega))
  · exact congrArg (fun x => k0_pay4 (F := Ideal) band (ix2 x j)) (Fin.ext (by dsimp only; omega))

theorem pay7_at (band : FVec Ideal S1x256x256 .f32) (i j : Fin 256) : k0_pay7 (F := Ideal) band (ix2 i j) = ofN (codes band j i).val := by
  pointwise [k0_pay7]
  exact pay4_code band j i

/-- Row `i` of chunk `n`. -/
def row (n : Fin 4) (i : Fin 64) : Fin 256 := ⟨n.val * 64 + i.val, by omega⟩

/-- The code buffer at a place given by the numbers of its plane, row and column. -/
theorem codesV_zero (band : FVec Ideal S1x256x256 .f32) (x : S2x256x256.Idx) (i j : Fin 256)
    (h0 : (x 0).val = 0) (h1 : (x 1).val = i.val) (h2 : (x 2).val = j.val) :
    codesV (F := Ideal) band x = BitVec.ofNat 8 (codes band i j).val := by
  have e : ValueIdx.ix3 (n0 := 1) 0 (x 1) (x 2) = ix3 0 i j := congrArg₂ (ix3 (n0 := 1) (n1 := 256) (n2 := 256) 0) (Fin.ext h1) (Fin.ext h2)
  unfold codesV
  rw [if_pos h0]
  exact (congrArg (k0_pay5 (F := Ideal) band) e).trans (pay5_at band i j)

theorem codesV_one (band : FVec Ideal S1x256x256 .f32) (x : S2x256x256.Idx) (i j : Fin 256)
    (h0 : (x 0).val = 1) (h1 : (x 1).val = i.val) (h2 : (x 2).val = j.val) :
    codesV (F := Ideal) band x = BitVec.ofNat 8 (codes band (i + 1) j).val := by
  have e : ValueIdx.ix3 (n0 := 1) 0 (x 1) (x 2) = ix3 0 i j := congrArg₂ (ix3 (n0 := 1) (n1 := 256) (n2 := 256) 0) (Fin.ext h1) (Fin.ext h2)
  unfold codesV
  rw [if_neg (by omega)]
  exact (congrArg (k0_pay6 (F := Ideal) band) e).trans (pay6_at band i j)

/-- A window, read at a place, is the buffer at that place of the window. -/
theorem window_at {α : Type} {s : Shape} (x : s.Idx → α) (off size : Fin s.rank → ℕ) (inb : ∀ a, off a + size a ≤ s.size a)
    (y : (Rect.unit off size inb).shape.Idx) : VecWindow.window x off size inb y = x ((Rect.unit off size inb).emb y) := rfl

/-- An offset and a place in a window. -/
theorem place (a b : ℕ) : a + 1 * b = a + b := by rw [one_mul]

theorem rows0_at (band : FVec Ideal S1x256x256 .f32) (n : Fin 4) (i : Fin 64) (c : Fin 256) :
    rowsOf (codesV (F := Ideal) band) 0 n (ix3 0 i c) = BitVec.ofNat 8 (codes band (row n i) c).val :=
  (window_at (codesV (F := Ideal) band) _ _ _ _).trans <| codesV_zero band _ _ _ (place 0 0) ((place (64 * n.val) i.val).trans (by rw [mul_comm]; rfl)) ((place 0 c.val).trans (Nat.zero_add _))

theorem rows1_at (band : FVec Ideal S1x256x256 .f32) (n : Fin 4) (i : Fin 64) (c : Fin 256) :
    rowsOf (codesV (F := Ideal) band) 1 n (ix3 0 i c) = BitVec.ofNat 8 (codes band (row n i + 1) c).val :=
  (window_at (codesV (F := Ideal) band) _ _ _ _).trans <| codesV_one band _ _ _ (place 1 0) ((place (64 * n.val) i.val).trans (by rw [mul_comm]; rfl)) ((place 0 c.val).trans (Nat.zero_add _))

theorem plane_at (band : FVec Ideal S1x256x256 .f32) (i j : Fin 256) :
    planeOf (codesV (F := Ideal) band) (ix3 0 i j) = BitVec.ofNat 8 (codes band i j).val :=
  (window_at (codesV (F := Ideal) band) _ _ _ _).trans <| codesV_zero band _ _ _ (place 0 0) ((place 0 i.val).trans (Nat.zero_add _)) ((place 0 j.val).trans (Nat.zero_add _))

/-- A window over the turned codes. -/
theorem turned (band : FVec Ideal S1x256x256 .f32) (y : S256x256.Idx) (i j : Fin 256) (h0 : (y 0).val = i.val) (h1 : (y 1).val = j.val) :
    k0_pay7 (F := Ideal) band y = ofN (codes band j i).val := by
  have e : y = ix2 i j := funext fun a => match a with
    | ⟨0, _⟩ => Fin.ext h0
    | ⟨1, _⟩ => Fin.ext h1
  rw [e, pay7_at]

theorem turn0_at (band : FVec Ideal S1x256x256 .f32) (x : Fin 256) : turn0 (F := Ideal) (k0_pay7 band) (ix2 0 x) = ofN (codes band x 0).val :=
  (window_at (k0_pay7 (F := Ideal) band) _ _ _ _).trans <| turned band _ 0 x (place 0 0) ((place 0 x.val).trans (Nat.zero_add _))

theorem turn255_at (band : FVec Ideal S1x256x256 .f32) (x : Fin 256) : turn255 (F := Ideal) (k0_pay7 band) (ix2 0 x) = ofN (codes band x 255).val :=
  (window_at (k0_pay7 (F := Ideal) band) _ _ _ _).trans <| turned band _ 255 x (place 255 0) ((place 0 x.val).trans (Nat.zero_add _))

/-! ### The four chunks -/

/-- The number of positions whose code is `l` and whose neighbour's, `dr` rows and `dc` columns on cyclically, is `m`. -/
def cyc (q : Fin 256 → Fin 256 → Fin 256) (dr dc l m : Fin 256) : ℕ := ∑ r : Fin 256, ∑ c : Fin 256, both (q r c) l (q (r + dr) (c + dc)) m

/-- The chunks' parts make the whole. -/
theorem chunks_total (G : Fin 256 → ℕ) : (0 + ofN (∑ i, G (row 0 i)) + ofN (∑ i, G (row 1 i)) + ofN (∑ i, G (row 2 i)) + ofN (∑ i, G (row 3 i)) : EReal) = ofN (∑ r, G r) := by
  rw [zero_add, ← ofN_add, ← ofN_add, ← ofN_add, Fin.sum_univ_tiles 4 64 rfl G, Fin.sum_univ_four]
  rfl

theorem chunk0 : chunk 0 = 0 := rfl
theorem chunk1 : chunk 1 = 1 := rfl
theorem chunk2 : chunk 2 = 2 := rfl
theorem chunk3 : chunk 3 = 3 := rfl

theorem zero0 (l m : Fin 256) : k0_pay32 (F := Ideal) (Scalar.ofBits .f32 0x00000000#32) (ix2 l m) = (0 : EReal) := by pointwise [k0_pay32]
theorem zero1 (l m : Fin 256) : k0_pay33 (F := Ideal) (ix2 l m) = (0 : EReal) := by pointwise [k0_pay33]
theorem zero2 (l m : Fin 256) : k0_pay34 (F := Ideal) (ix2 l m) = (0 : EReal) := by pointwise [k0_pay34]
theorem zero3 (l m : Fin 256) : k0_pay35 (F := Ideal) (ix2 l m) = (0 : EReal) := by pointwise [k0_pay35]

theorem add_zero_fin (c : Fin 256) : c + 0 = c := add_zero c

theorem cnt0_at (band : FVec Ideal S1x256x256 .f32) (l m : Fin 256) : cnt0 (F := Ideal) (codesV band) 4 (ix2 l m) = ofN (cyc (codes band) 0 1 l m) := by
  simp only [cnt0, step0_at _ _ (rows0_at band _), zero0, chunk0, chunk1, chunk2, chunk3]
  refine (chunks_total (fun r => ∑ c, both (codes band r c) l (codes band r (c + 1)) m)).trans ?_
  simp only [cyc, add_zero_fin]

theorem cnt1_at (band : FVec Ideal S1x256x256 .f32) (l m : Fin 256) : cnt1 (F := Ideal) (codesV band) 4 (ix2 l m) = ofN (cyc (codes band) 1 1 l m) := by
  simp only [cnt1, step1_at _ _ _ _ (rows0_at band _) (rows1_at band _), zero1, chunk0, chunk1, chunk2, chunk3]
  exact chunks_total (fun r => ∑ c, both (codes band r c) l (codes band (r + 1) (c + 1)) m)

theorem cnt2_at (band : FVec Ideal S1x256x256 .f32) (l m : Fin 256) : cnt2 (F := Ideal) (codesV band) 4 (ix2 l m) = ofN (cyc (codes band) 1 0 l m) := by
  simp only [cnt2, step2_at _ _ _ _ (rows0_at band _) (rows1_at band _), zero2, chunk0, chunk1, chunk2, chunk3]
  refine (chunks_total (fun r => ∑ c, both (codes band r c) l (codes band (r + 1) c) m)).trans ?_
  simp only [cyc, add_zero_fin]

theorem cnt3_at (band : FVec Ideal S1x256x256 .f32) (l m : Fin 256) : cnt3 (F := Ideal) (codesV band) 4 (ix2 l m) = ofN (cyc (codes band) 1 (-1) l m) := by
  simp only [cnt3, step3_at _ _ _ _ (rows0_at band _) (rows1_at band _), zero3, chunk0, chunk1, chunk2, chunk3]
  refine (chunks_total (fun r => ∑ c, both (codes band r c) l (codes band (r + 1) (c - 1)) m)).trans ?_
  simp only [cyc, sub_eq_add_neg]

end Cert.Proof

end
-- ==== Proof.Edges.lean ====
/-
  The products the kernel takes away from its counts, over the extended reals: each is the number of positions at the
  edge whose cyclic neighbour is not a neighbour of the band.
-/
module

public import proofs.«01_k».proof.Proof.Counts

@[expose] public section

set_option maxRecDepth 16384

noncomputable section

namespace Cert.Proof

open Idealize.ShloMosaic
open Cert.KernelIdeal Cert.KernelIdeal.Gen Cert.KernelIdeal.Run

/-- A code read as a number. -/
theorem uitofp_code (k : Fin 256) : FloatOps.uitofp (F := Ideal) .bf16 (BitVec.ofNat 8 k.val) = ofN k.val := by
  have hk := k.isLt
  show (((BitVec.ofNat 8 k.val).toNat : ℝ) : EReal) = _
  rw [BitVec.toNat_ofNat, Nat.mod_eq_of_lt (by omega)]
  rfl

/-- A level read as a number. -/
theorem sitofp_level (l : Fin 256) : FloatOps.sitofp (F := Ideal) .bf16 (BitVec.ofNat 32 l.val) = ofN l.val := by
  have hl := l.isLt
  show (((BitVec.ofNat 32 l.val).toInt : ℝ) : EReal) = _
  rw [BitVec.toInt_ofNat', Int.bmod_eq_of_le (by omega) (by omega)]
  simp [ofN]

/-- The one-hot value of a number at a level. -/
theorem hotb (k l : Fin 256) (v : EReal) (hv : v = ofN k.val) :
    (if FloatOps.sitofp (F := Ideal) .bf16 (BitVec.ofNat 32 l.val) = v then (1 : EReal) else 0) = if k = l then 1 else 0 := by
  rw [sitofp_level, hv]
  by_cases h : k = l
  · rw [if_pos h, if_pos (by rw [h])]
  · rw [if_neg h, if_neg (fun e => h (Fin.ext (ofN_inj.1 e).symm))]

section Tables

variable (p : S1x256x256.Idx → BitVec 8) (u w : FVec Ideal S1x256 .bf16) (q : Fin 256 → Fin 256 → Fin 256)
  (hp : ∀ i j, p (ix3 0 i j) = BitVec.ofNat 8 (q i j).val) (hu : ∀ x, u (ix2 0 x) = ofN (q x 0).val) (hw : ∀ x, w (ix2 0 x) = ofN (q x 255).val)
  (l m x : Fin 256)

include hp in
theorem plane_num (i y : Fin 256) (j z : Fin 256) (hi : y.val = i.val) (hj : z.val = j.val) :
    FloatOps.uitofp (F := Ideal) .bf16 (p (ix3 0 y z)) = ofN (q i j).val := by
  obtain rfl := Fin.ext hi
  obtain rfl := Fin.ext hj
  rw [hp, uitofp_code]

include hp in
theorem pay18_at : k0_pay18 (F := Ideal) p (ix2 m x) = if q 0 (x + 1) = m then (1 : EReal) else 0 := by
  pointwise [k0_pay18, k0_pay17, k0_pay16, k0_pay15]
  refine hotb _ _ _ ?_
  have := val_add_one x
  split
  · exact plane_num p q hp _ _ _ _ rfl (by dsimp only; omega)
  · exact plane_num p q hp _ _ _ _ rfl (by dsimp only; omega)

include hp in
theorem pay19_at : k0_pay19 (F := Ideal) p (ix2 m x) = if q 0 (x - 1) = m then (1 : EReal) else 0 := by
  pointwise [k0_pay19, k0_pay17, k0_pay16, k0_pay15]
  refine hotb _ _ _ ?_
  have := val_sub_one x
  split
  · exact plane_num p q hp _ _ _ _ rfl (by dsimp only; omega)
  · exact plane_num p q hp _ _ _ _ rfl (by dsimp only; omega)

include hp in
theorem pay20_at : k0_pay20 (F := Ideal) p (ix2 l x) = if q 255 x = l then (1 : EReal) else 0 := by
  pointwise [k0_pay20, k0_pay17, k0_pay15]
  exact hotb _ _ _ (plane_num p q hp _ _ _ _ rfl rfl)

theorem toInt_level (k : Fin 256) : (BitVec.ofNat 32 k.val).toInt = k.val := by
  have hk := k.isLt
  rw [BitVec.toInt_ofNat', Int.bmod_eq_of_le (by omega) (by omega)]

theorem below (a b : EReal) : Scalar.select (IntOp.cmpi .slt (BitVec.ofNat 32 x.val) 255#32) a b = if x.val < 255 then a else b := by
  have h : (BitVec.ofNat 32 x.val).slt 255#32 = decide (x.val < 255) := by
    rw [BitVec.slt_eq_decide, toInt_level]
    exact decide_eq_decide.2 (by show (x.val : ℤ) < 255 ↔ _; omega)
  by_cases hx : x.val < 255 <;> simp [Scalar.select, IntOp.cmpi, h, hx]

theorem above (a b : EReal) : Scalar.select (IntOp.cmpi .sgt (BitVec.ofNat 32 x.val) 0#32) a b = if 0 < x.val then a else b := by
  have h : (0#32).slt (BitVec.ofNat 32 x.val) = decide (0 < x.val) := by
    rw [BitVec.slt_eq_decide, toInt_level]
    exact decide_eq_decide.2 (by show (0 : ℤ) < x.val ↔ _; omega)
  by_cases hx : 0 < x.val <;> simp [Scalar.select, IntOp.cmpi, h, hx]

include hp in
theorem pay21_at : k0_pay21 (F := Ideal) p (ix2 l x) = if x.val < 255 then (if q 255 x = l then (1 : EReal) else 0) else 0 := by
  pointwise [k0_pay21]
  rw [below, pay20_at p q hp]

include hp in
theorem pay22_at : k0_pay22 (F := Ideal) p (ix2 l x) = if 0 < x.val then (if q 255 x = l then (1 : EReal) else 0) else 0 := by
  pointwise [k0_pay22]
  rw [above, pay20_at p q hp]

theorem masked (P : Prop) [Decidable P] (a l b m : Fin 256) :
    (if P then (if a = l then (1 : EReal) else 0) else 0) * (if b = m then 1 else 0) = ofN (if P then both a l b m else 0) := by
  by_cases h : P
  · rw [if_pos h, if_pos h, hot_mul]
  · rw [if_neg h, if_neg h, zero_mul, ofN_zero]

include hu hw in
theorem corr0_at : k0_pay24 (F := Ideal) u k0_pay17 (k0_pay23 (F := Ideal) w) (1 : EReal) (ix2 l m)
    = ofN (∑ t, both (q t 255) l (q t 0) m) := by
  pointwise [k0_pay24, k0_pay23, k0_pay17]
  rw [← ofN_sum]
  refine Finset.sum_congr rfl fun t _ => ?_
  rw [hotb _ _ _ (hw t), hotb _ _ _ (hu t), hot_mul]

theorem pay17_at : k0_pay17 (F := Ideal) (ix2 l x) = FloatOps.sitofp (F := Ideal) .bf16 (BitVec.ofNat 32 l.val) := by
  pointwise [k0_pay17]

include hp hu hw in
theorem corr1_at : k0_pay25 (F := Ideal) u w k0_pay17 (k0_pay18 (F := Ideal) p) (k0_pay21 (F := Ideal) p) (ix2 l m)
    = ofN ((∑ t : Fin 256, both (q t 255) l (q (t + 1) 0) m) + ∑ t : Fin 256, if t.val < 255 then both (q 255 t) l (q 0 (t + 1)) m else 0) := by
  suffices h : ∀ z : EReal, z = ofN ((∑ t : Fin 256, both (q t 255) l (q (t + 1) 0) m) + ∑ t : Fin 256, if t.val < 255 then both (q 255 t) l (q 0 (t + 1)) m else 0)
      → k0_pay25 (F := Ideal) u w k0_pay17 (k0_pay18 (F := Ideal) p) (k0_pay21 (F := Ideal) p) (ix2 l m) = z from h _ rfl
  intro z hz
  pointwise [k0_pay25]
  rw [hz, ofN_add]
  refine congrArg₂ (fun a b : EReal => a + b) ?_ ?_
  · rw [Fin.sum_univ_castSucc (n := 255), ofN_add, ← ofN_sum, Fin.sum_univ_one]
    refine congrArg₂ (fun a b : EReal => a + b) (Finset.sum_congr rfl fun t _ => ?_) ?_
    · have e : (⟨1 + t.val, by omega⟩ : Fin 256) = t.castSucc + 1 := Fin.ext (by
        rw [val_add_one]; show 1 + t.val = (t.val + 1) % 256; omega)
      rw [pay17_at, pay17_at, ← hot_mul]
      refine congrArg₂ (fun a b : EReal => a * b) (hotb _ _ _ (hw t.castSucc)) (hotb _ _ _ ?_)
      rw [← hu]
      exact congrArg (fun y => u (ix2 0 y)) e
    · rw [pay17_at, pay17_at, ← hot_mul]
      exact congrArg₂ (fun a b : EReal => a * b) (hotb _ _ _ (hw 255)) (hotb _ _ _ (hu 0))
  · rw [← ofN_sum]
    refine Finset.sum_congr rfl fun t _ => ?_
    rw [pay21_at p q hp, pay18_at p q hp, masked]

include hp in
theorem corr2_at : k0_pay26 (F := Ideal) (k0_pay16 (F := Ideal) p) k0_pay17 (k0_pay20 (F := Ideal) p) (ix2 l m)
    = ofN (∑ t, both (q 255 t) l (q 0 t) m) := by
  pointwise [k0_pay26, k0_pay17, k0_pay16, k0_pay15]
  rw [← ofN_sum]
  refine Finset.sum_congr rfl fun t _ => ?_
  rw [pay20_at p q hp, hotb _ _ _ (plane_num p q hp 0 _ t _ rfl rfl), hot_mul]

/-- The table of a row read one place on. -/
theorem next_at (v : FVec Ideal S1x256 .bf16) (f : Fin 256 → Fin 256) (hv : ∀ x, v (ix2 0 x) = ofN (f x).val) :
    select (k0_pay28 (F := Ideal) v k0_pay17) (k0_pay29 (F := Ideal)) (k0_pay30 (F := Ideal)) (ix2 m x) = if f (x + 1) = m then (1 : EReal) else 0 := by
  pointwise [k0_pay28, k0_pay17, k0_pay29, k0_pay30]
  refine hotb _ _ _ ?_
  have := val_add_one x
  rw [← hv]
  split
  · exact congrArg (fun y => v (ix2 0 y)) (Fin.ext (by dsimp only; omega))
  · exact congrArg (fun y => v (ix2 0 y)) (Fin.ext (by dsimp only; omega))

theorem here_at (v : FVec Ideal S1x256 .bf16) (f : Fin 256 → Fin 256) (hv : ∀ x, v (ix2 0 x) = ofN (f x).val) :
    k0_pay27 (F := Ideal) v k0_pay17 (ix2 l x) = if f x = l then (1 : EReal) else 0 := by
  pointwise [k0_pay27, k0_pay17]
  exact hotb _ _ _ (hv x)

include hp hu hw in
theorem corr3_at : (∑ x, k0_pay27 (F := Ideal) u k0_pay17 (ix2 l x)
        * select (k0_pay28 (F := Ideal) w k0_pay17) (k0_pay29 (F := Ideal)) (k0_pay30 (F := Ideal)) (ix2 m x)
      + ∑ x, k0_pay22 (F := Ideal) p (ix2 l x) * k0_pay19 (F := Ideal) p (ix2 m x) : EReal)
    = ofN ((∑ t : Fin 256, both (q t 0) l (q (t + 1) 255) m) + ∑ t : Fin 256, if 0 < t.val then both (q 255 t) l (q 0 (t - 1)) m else 0) := by
  rw [ofN_add, ← ofN_sum, ← ofN_sum]
  refine congrArg₂ (fun a b : EReal => a + b) (Finset.sum_congr rfl fun t _ => ?_) (Finset.sum_congr rfl fun t _ => ?_)
  · rw [here_at l t u (fun x => q x 0) hu, next_at m t w (fun x => q x 255) hw, hot_mul]
  · rw [pay22_at p q hp, pay19_at p q hp, masked]

/-- A quarter of the sum of the squared distances from the mean, as the kernel takes it. -/
def spread (c0 c1 c2 c3 : EReal) : EReal :=
  let s : EReal := Ideal.ofBits .f32 0x3E800000#32
  let a : EReal := (c0 + c1 + c2 + c3) * s
  ((c0 - a) * (c0 - a) + (c1 - a) * (c1 - a) + (c2 - a) * (c2 - a) + (c3 - a) * (c3 - a)) * s

include hp hu hw in
theorem fin_at (a0 a1 a2 a3 : FVec Ideal S256x256 .f32) : finV (F := Ideal) p u w a0 a1 a2 a3 (ix3 0 l m)
    = spread (a0 (ix2 l m) - ofN (∑ t, both (q t 255) l (q t 0) m))
      (a1 (ix2 l m) - ofN ((∑ t : Fin 256, both (q t 255) l (q (t + 1) 0) m) + ∑ t : Fin 256, if t.val < 255 then both (q 255 t) l (q 0 (t + 1)) m else 0))
      (a2 (ix2 l m) - ofN (∑ t, both (q 255 t) l (q 0 t) m))
      (a3 (ix2 l m) - ofN ((∑ t : Fin 256, both (q t 0) l (q (t + 1) 255) m) + ∑ t : Fin 256, if 0 < t.val then both (q 255 t) l (q 0 (t - 1)) m else 0)) := by
  rw [← corr0_at u w q hu hw, ← corr1_at p u w q hp hu hw, ← corr2_at p q hp, ← corr3_at p u w q hp hu hw]
  pointwise [finV, k0_pay31]
  rfl

end Tables

end Cert.Proof

end
-- ==== Proof.Bins.lean ====
/-
  The reference's four tables of counts: a scatter that adds one at each index leaves at an entry the number of updates
  whose index is that entry.
-/
module

public import proofs.«01_k».proof.Proof.Edges

@[expose] public section

set_option maxRecDepth 16384

noncomputable section

namespace Cert.Proof

open Idealize.ShloMosaic
open Cert.ReferenceIdeal Cert.ReferenceIdeal.Gen

/-- A fold whose steps add one at `x` where `P` holds and leave it alone elsewhere adds the number of such steps. -/
theorem foldl_bins {ι κ : Type} (P : κ → Prop) [DecidablePred P] (f : (ι → BitVec 32) → κ → ι → BitVec 32) (x : ι)
    (hf : ∀ r n, f r n x = if P n then r x + 1#32 else r x) (L : List κ) (r : ι → BitVec 32) (c : ℕ) (hr : r x = BitVec.ofNat 32 c) :
    L.foldl f r x = BitVec.ofNat 32 (c + (L.map fun n => if P n then 1 else 0).sum) := by
  induction L generalizing r c with
  | nil => simpa using hr
  | cons n L ih =>
    rw [List.foldl_cons, List.map_cons, List.sum_cons, ← Nat.add_assoc]
    refine ih (f r n) _ ?_
    rw [hf, hr]
    split
    · exact (BitVec.ofNat_add c 1).symm
    · rfl

/-- A scatter of ones into zeros, adding, leaves at `x` the number of updates that land there. -/
theorem scatter_bins {s si u : Shape} (d : ScatterDims s si u) (x0 : IVec s 32) (idx : IVec si 32) (upd : IVec u 32) (x : s.Idx)
    (h0 : x0 x = 0#32) (h1 : ∀ j, upd j = 1#32) (P : u.Idx → Prop) [DecidablePred P] (hP : ∀ j, d.resultIdx? j idx = some x ↔ P j) :
    Host.scatter d IntOp.addi x0 idx upd x = BitVec.ofNat 32 (∑ j : u.Idx, if P j then 1 else 0) := by
  unfold Host.scatter
  refine (foldl_bins (fun n => P (u.rowMajor.symm n)) _ x (fun r n => ?_) _ x0 0 h0).trans ?_
  · have h := hP (u.rowMajor.symm n)
    generalize d.resultIdx? (u.rowMajor.symm n) idx = o at h
    cases o with
    | none => rw [if_neg fun hp => nomatch h.2 hp]
    | some k =>
      dsimp only
      by_cases hk : x = k
      · rw [if_pos hk, if_pos (h.1 (congrArg some hk.symm)), h1, hk]
        rfl
      · rw [if_neg hk, if_neg fun hp => hk (Option.some.inj (h.2 hp)).symm]
  · rw [Nat.zero_add, ← List.ofFn_eq_map, List.sum_ofFn]
    exact congrArg (BitVec.ofNat 32) (Equiv.sum_comp u.rowMajor.symm fun j => if P j then 1 else 0)

/-- An update of either scatter lands at the entry its index names. -/
theorem lands_of {s si u : Shape} (d : ScatterDims s si u) {w : ℕ} (j : u.Idx) (idx : IVec si w) (x : s.Idx) (k : Fin s.rank → ℤ)
    (hs : ∀ a, d.start j idx a = k a) (hw : ∀ a, d.window j a = 0) : d.resultIdx? j idx = some x ↔ ∀ a, k a = (x a).val := by
  unfold ScatterDims.resultIdx?
  simp only [hs, hw, Nat.cast_zero, add_zero]
  split
  · next h =>
    rw [Option.some.injEq, funext_iff]
    refine forall_congr' fun a => ?_
    rw [Fin.ext_iff]
    have := h a
    dsimp only
    omega
  · next h =>
    refine ⟨fun e => (nomatch e), fun e => (h fun a => ?_).elim⟩
    have := (x a).isLt
    rw [e a]
    omega

/-- The entry of the scatter of `M` numbers, one index each, into 65536: the index, read signed. -/
theorem lands_row {M : ℕ} (wf : ScatterDims.WF S65536 ⟨2, ![M, 1]⟩ ⟨1, ![M]⟩ [] [0] [0] 1) (idx : IVec ⟨2, ![M, 1]⟩ 32)
    (j : (⟨1, ![M]⟩ : Shape).Idx) (x : S65536.Idx) :
    (⟨[], [0], [0], 1, wf⟩ : ScatterDims S65536 ⟨2, ![M, 1]⟩ ⟨1, ![M]⟩).resultIdx? j idx = some x ↔ (idx (ix2 (j 0) 0)).toInt = (x 0).val := by
  refine (lands_of _ j idx x (fun _ => (idx (ix2 (j 0) 0)).toInt) (fun a => ?_) fun a => ?_).trans ⟨fun h => h 0, fun h a => ?_⟩
  · obtain rfl : a = 0 := Subsingleton.elim _ _
    refine (dif_pos (List.mem_singleton.2 rfl)).trans (congrArg (fun y => (idx y).toInt) (funext fun b => ?_))
    match b with
    | ⟨0, _⟩ => rfl
    | ⟨1, _⟩ => rfl
  · obtain rfl : a = 0 := Subsingleton.elim _ _
    rfl
  · obtain rfl : a = 0 := Subsingleton.elim _ _
    exact h

/-! ### Indices that are pairs of codes -/

theorem toInt_small (n : ℕ) (h : n < 2 ^ 31) : (BitVec.ofNat 32 n).toInt = n := by
  rw [BitVec.toInt_ofNat', Int.bmod_eq_of_le (by omega) (by omega)]

/-- The number of a pair of codes. -/
def pairNo (a b : Fin 256) : ℕ := a.val * 256 + b.val

theorem pairNo_lt (a b : Fin 256) : pairNo a b < 65536 := by
  have := a.isLt; have := b.isLt; unfold pairNo; omega

theorem pairNo_eq (a l b m : Fin 256) : (if pairNo a b = l.val * 256 + m.val then 1 else 0) = both a l b m := by
  have := b.isLt; have := m.isLt
  unfold pairNo both
  exact if_congr (by rw [Fin.ext_iff, Fin.ext_iff]; omega) rfl rfl

theorem pair_word (a b : Fin 256) : IntOp.addi (IntOp.muli (BitVec.ofNat 32 a.val) 256#32) (BitVec.ofNat 32 b.val) = BitVec.ofNat 32 (pairNo a b) := by
  show BitVec.ofNat 32 a.val * 256#32 + BitVec.ofNat 32 b.val = _
  rw [← BitVec.ofNat_mul, ← BitVec.ofNat_add]
  rfl

theorem slt_zero_small (n : ℕ) (h : n < 2 ^ 31) : (BitVec.ofNat 32 n).slt 0#32 = false := by
  rw [BitVec.slt_eq_decide, toInt_small n h]
  exact decide_eq_false (by show ¬ (n : ℤ) < 0; omega)

theorem maxsi_small (n : ℕ) (h : n < 2 ^ 31) : IntOp.maxsi 0#32 (BitVec.ofNat 32 n) = BitVec.ofNat 32 n := by
  have := slt_zero_small n h
  unfold IntOp.maxsi
  simp [this]

theorem wrap_small (n : ℕ) (h : n < 2 ^ 31) (k : BitVec 32) :
    Scalar.select (IntOp.cmpi .slt (BitVec.ofNat 32 n) 0#32) k (BitVec.ofNat 32 n) = BitVec.ofNat 32 n := by
  simp [Scalar.select, IntOp.cmpi, slt_zero_small n h]

section Pairs

variable {n0 n1 M : ℕ} (h : (⟨2, ![n0, n1]⟩ : Shape).ShapeCasts ⟨1, ![M]⟩) (B : IVec ⟨2, ![n0, n1]⟩ 32) (a b : Fin n0 → Fin n1 → Fin 256)
  (hB : ∀ r c, B (ix2 r c) = BitVec.ofNat 32 (pairNo (a r c) (b r c)))

include hB in
/-- The row of pair numbers, made nonnegative. -/
theorem pairs_at (z : IVec ⟨1, ![M]⟩ 32) (hz : ∀ j, z j = 0#32) (j : (⟨1, ![M]⟩ : Shape).Idx) :
    maxsi z (shapeCast ⟨1, ![M]⟩ B h) j
      = BitVec.ofNat 32 (pairNo (a (Shape.reshapeEquiv h j 0) (Shape.reshapeEquiv h j 1)) (b (Shape.reshapeEquiv h j 0) (Shape.reshapeEquiv h j 1))) := by
  show IntOp.maxsi (z j) (B (Shape.reshapeEquiv h j)) = _
  generalize Shape.reshapeEquiv h j = k
  have e : k = ix2 (k 0) (k 1) := funext fun x => match x with
    | ⟨0, _⟩ => rfl
    | ⟨1, _⟩ => rfl
  rw [hz, (congrArg B e).trans (hB (k 0) (k 1))]
  exact maxsi_small _ ((pairNo_lt _ _).trans (by norm_num))

/-- The table of a row of pair numbers: at the pair `(l, m)`, how many there are. -/
theorem bins_at (wf : ScatterDims.WF S65536 ⟨2, ![M, 1]⟩ ⟨1, ![M]⟩ [] [0] [0] 1) (x0 : IVec S65536 32) (idx : IVec ⟨2, ![M, 1]⟩ 32)
    (upd : IVec ⟨1, ![M]⟩ 32) (h0 : ∀ x, x0 x = 0#32) (h1 : ∀ j, upd j = 1#32)
    (hidx : ∀ j : (⟨1, ![M]⟩ : Shape).Idx, idx (ix2 (j 0) 0)
      = BitVec.ofNat 32 (pairNo (a (Shape.reshapeEquiv h j 0) (Shape.reshapeEquiv h j 1)) (b (Shape.reshapeEquiv h j 0) (Shape.reshapeEquiv h j 1))))
    (x : S65536.Idx) (l m : Fin 256) (hx : (x 0).val = l.val * 256 + m.val) :
    Host.scatter ⟨[], [0], [0], 1, wf⟩ IntOp.addi x0 idx upd x = BitVec.ofNat 32 (∑ r, ∑ c, both (a r c) l (b r c) m) := by
  refine (scatter_bins _ x0 idx upd x (h0 x) h1
    (fun j => pairNo (a (Shape.reshapeEquiv h j 0) (Shape.reshapeEquiv h j 1)) (b (Shape.reshapeEquiv h j 0) (Shape.reshapeEquiv h j 1)) = l.val * 256 + m.val)
    fun j => ?_).trans (congrArg (BitVec.ofNat 32) ?_)
  · rw [lands_row, hidx, toInt_small _ ((pairNo_lt _ _).trans (by norm_num)), hx]
    exact Int.natCast_inj
  · refine (Equiv.sum_comp (Shape.reshapeEquiv h) fun k => if pairNo (a (k 0) (k 1)) (b (k 0) (k 1)) = l.val * 256 + m.val then 1 else 0).trans ?_
    refine (ValueIdx.sum_idx2 _).trans (Finset.sum_congr rfl fun r _ => Finset.sum_congr rfl fun c _ => ?_)
    exact pairNo_eq _ _ _ _

end Pairs

end Cert.Proof

end
-- ==== Proof.Tables.lean ====
/-
  The reference's result from its codes: the four tables of counts, and the variance over them.
-/
module

public import proofs.«01_k».proof.Proof.Bins

@[expose] public section

set_option maxRecDepth 16384

noncomputable section

namespace Cert.Proof

open Idealize.ShloMosaic
open Cert.ReferenceIdeal Cert.ReferenceIdeal.Gen

/-! ### The reference's terms over a variable -/

/-- The table of counts of a row of 65280 pair numbers, and of 65025. -/
def tabBig (v : IVec S65280 32) : IVec S256x256 32 :=
  shapeCast _ (Host.scatter scatter_S65536_S65280x1_S65280_n_0_0_1 IntOp.addi (broadcastInDim S65536 ![] bcast_S_S65536 (constantI S_ 32 0#32))
    (broadcastInDim S65280x1 ![0] bcast_S65280_S65280x1_0 (select (cmpi .slt v (broadcastInDim S65280 ![] bcast_S_S65280 (constantI S_ 32 0#32)))
      (addi v (broadcastInDim S65280 ![] bcast_S_S65280 (constantI S_ 32 65536#32))) v))
    (broadcastInDim S65280 ![] bcast_S_S65280 (constantI S_ 32 1#32))) shapeCasts_S65536_S256x256
def tabSmall (v : IVec S65025 32) : IVec S256x256 32 :=
  shapeCast _ (Host.scatter scatter_S65536_S65025x1_S65025_n_0_0_1 IntOp.addi (broadcastInDim S65536 ![] bcast_S_S65536 (constantI S_ 32 0#32))
    (broadcastInDim S65025x1 ![0] bcast_S65025_S65025x1_0 (select (cmpi .slt v (broadcastInDim S65025 ![] bcast_S_S65025 (constantI S_ 32 0#32)))
      (addi v (broadcastInDim S65025 ![] bcast_S_S65025 (constantI S_ 32 65536#32))) v))
    (broadcastInDim S65025 ![] bcast_S_S65025 (constantI S_ 32 1#32))) shapeCasts_S65536_S256x256

/-- The pair numbers of the four directions. -/
def bodyA (C : IVec S256x256 32) : IVec S256x255 32 :=
  addi (muli (extractStridedSlice S256x255 ![0, 0] C slices_S256x256_S256x255_0_0) (broadcastInDim S256x255 ![] bcast_S_S256x255 (constantI S_ 32 256#32))) (extractStridedSlice S256x255 ![0, 1] C slices_S256x256_S256x255_0_1)
def bodyB (C : IVec S256x256 32) : IVec S255x255 32 :=
  addi (muli (extractStridedSlice S255x255 ![0, 0] C slices_S256x256_S255x255_0_0) (broadcastInDim S255x255 ![] bcast_S_S255x255 (constantI S_ 32 256#32))) (extractStridedSlice S255x255 ![1, 1] C slices_S256x256_S255x255_1_1)
def bodyC (C : IVec S256x256 32) : IVec S255x256 32 :=
  addi (muli (extractStridedSlice S255x256 ![0, 0] C slices_S256x256_S255x256_0_0) (broadcastInDim S255x256 ![] bcast_S_S255x256 (constantI S_ 32 256#32))) (extractStridedSlice S255x256 ![1, 0] C slices_S256x256_S255x256_1_0)
def bodyD (C : IVec S256x256 32) : IVec S255x255 32 :=
  addi (muli (extractStridedSlice S255x255 ![0, 1] C slices_S256x256_S255x255_0_1) (broadcastInDim S255x255 ![] bcast_S_S255x255 (constantI S_ 32 256#32))) (extractStridedSlice S255x255 ![1, 0] C slices_S256x256_S255x255_1_0)

/-- The four tables of counts. -/
def tabA (C : IVec S256x256 32) : IVec S256x256 32 :=
  tabBig (maxsi (broadcastInDim S65280 ![] bcast_S_S65280 (id (constantI S_ 32 0#32))) (shapeCast _ (bodyA C) shapeCasts_S256x255_S65280))
def tabB (C : IVec S256x256 32) : IVec S256x256 32 :=
  tabSmall (maxsi (broadcastInDim S65025 ![] bcast_S_S65025 (id (constantI S_ 32 0#32))) (shapeCast _ (bodyB C) shapeCasts_S255x255_S65025))
def tabC (C : IVec S256x256 32) : IVec S256x256 32 :=
  tabBig (maxsi (broadcastInDim S65280 ![] bcast_S_S65280 (id (constantI S_ 32 0#32))) (shapeCast _ (bodyC C) shapeCasts_S255x256_S65280))
def tabD (C : IVec S256x256 32) : IVec S256x256 32 :=
  tabSmall (maxsi (broadcastInDim S65025 ![] bcast_S_S65025 (id (constantI S_ 32 0#32))) (shapeCast _ (bodyD C) shapeCasts_S255x255_S65025))

/-- The four tables side by side. -/
def tabs (A B C D : IVec S256x256 32) : FVec Ideal S256x256x4 .f32 :=
  sitofp .f32 (concatenate S256x256x4 2 [⟨S256x256x1, broadcastInDim S256x256x1 ![0, 1] bcast_S256x256_S256x256x1_0_1 A⟩,
    ⟨S256x256x1, broadcastInDim S256x256x1 ![0, 1] bcast_S256x256_S256x256x1_0_1 B⟩,
    ⟨S256x256x1, broadcastInDim S256x256x1 ![0, 1] bcast_S256x256_S256x256x1_0_1 C⟩,
    ⟨S256x256x1, broadcastInDim S256x256x1 ![0, 1] bcast_S256x256_S256x256x1_0_1 D⟩] concatenates_S256x256x1_S256x256x1_S256x256x1_S256x256x1_S256x256x4_d2)

/-- The distances from the mean, the divisor and the variance, over the tables. -/
def fromMean (T : FVec Ideal S256x256x4 .f32) : FVec Ideal S256x256x4 .f32 :=
  subf T (broadcastInDim S256x256x4 ![0, 1, 2] bcast_S256x256x1_S256x256x4_0_1_2 (Host.divf (broadcastInDim S256x256x1 ![0, 1] bcast_S256x256_S256x256x1_0_1 (Host.reduceAdd T (constant S_ .f32 0x00000000#32) reducesTo_S256x256x4_S256x256_d2 h_S_)) (broadcastInDim S256x256x1 ![] bcast_S_S256x256x1 (constant S_ .f32 0x40800000#32))))
def divisor : FVec Ideal S_ .f32 := subf (constant S_ .f32 0x40800000#32) (sitofp .f32 (constantI S_ 32 0#32))
def variance (V : FVec Ideal S256x256x4 .f32) : FVec Ideal S256x256 .f32 :=
  select (broadcastInDim S256x256 ![] bcast_S_S256x256 (cmpf .ogt divisor (constant S_ .f32 0x00000000#32)))
    (Host.divf (Host.reduceAdd (mulf V V) (constant S_ .f32 0x00000000#32) reducesTo_S256x256x4_S256x256_d2 h_S_) (broadcastInDim S256x256 ![] bcast_S_S256x256 divisor))
    (broadcastInDim S256x256 ![] bcast_S_S256x256 (id (constant S_ .f32 0x7FC00000#32)))

/-! ### The tables -/

theorem one_axis {n : ℕ} (j : (⟨1, ![n]⟩ : Shape).Idx) : ix1 (j 0) = j := funext fun a => match a with
  | ⟨0, _⟩ => rfl

/-- An index of the row is the pair number, which is not negative. -/
theorem indexBig_at (v : IVec S65280 32) (i : Fin 65280) (n : ℕ) (hn : n < 2 ^ 31) (h : v (ix1 i) = BitVec.ofNat 32 n) :
    broadcastInDim S65280x1 ![0] bcast_S65280_S65280x1_0 (select (cmpi .slt v (broadcastInDim S65280 ![] bcast_S_S65280 (constantI S_ 32 0#32)))
      (addi v (broadcastInDim S65280 ![] bcast_S_S65280 (constantI S_ 32 65536#32))) v) (ix2 i 0) = BitVec.ofNat 32 n := by
  pointwise
  rw [h]
  exact wrap_small n hn _

theorem tabBig_at {n0 n1 : ℕ} (h : (⟨2, ![n0, n1]⟩ : Shape).ShapeCasts S65280) (B : IVec ⟨2, ![n0, n1]⟩ 32) (a b : Fin n0 → Fin n1 → Fin 256)
    (hB : ∀ r c, B (ix2 r c) = BitVec.ofNat 32 (pairNo (a r c) (b r c))) (l m : Fin 256) :
    tabBig (maxsi (broadcastInDim S65280 ![] bcast_S_S65280 (id (constantI S_ 32 0#32))) (shapeCast _ B h)) (ix2 l m)
      = BitVec.ofNat 32 (∑ r, ∑ c, both (a r c) l (b r c) m) := by
  have hv := pairs_at h B a b hB (broadcastInDim S65280 ![] bcast_S_S65280 (id (constantI S_ 32 0#32))) (fun _ => rfl)
  generalize maxsi (broadcastInDim S65280 ![] bcast_S_S65280 (id (constantI S_ 32 0#32))) (shapeCast _ B h) = v at hv ⊢
  pointwise [tabBig]
  exact bins_at h a b _ _ _ _ (fun _ => rfl) (fun _ => rfl)
    (fun j => indexBig_at v (j 0) _ ((pairNo_lt _ _).trans (by norm_num)) ((congrArg v (one_axis j)).trans (hv j))) _ l m rfl

/-- An index of the row is the pair number, which is not negative. -/
theorem indexSmall_at (v : IVec S65025 32) (i : Fin 65025) (n : ℕ) (hn : n < 2 ^ 31) (h : v (ix1 i) = BitVec.ofNat 32 n) :
    broadcastInDim S65025x1 ![0] bcast_S65025_S65025x1_0 (select (cmpi .slt v (broadcastInDim S65025 ![] bcast_S_S65025 (constantI S_ 32 0#32)))
      (addi v (broadcastInDim S65025 ![] bcast_S_S65025 (constantI S_ 32 65536#32))) v) (ix2 i 0) = BitVec.ofNat 32 n := by
  pointwise
  rw [h]
  exact wrap_small n hn _

theorem tabSmall_at {n0 n1 : ℕ} (h : (⟨2, ![n0, n1]⟩ : Shape).ShapeCasts S65025) (B : IVec ⟨2, ![n0, n1]⟩ 32) (a b : Fin n0 → Fin n1 → Fin 256)
    (hB : ∀ r c, B (ix2 r c) = BitVec.ofNat 32 (pairNo (a r c) (b r c))) (l m : Fin 256) :
    tabSmall (maxsi (broadcastInDim S65025 ![] bcast_S_S65025 (id (constantI S_ 32 0#32))) (shapeCast _ B h)) (ix2 l m)
      = BitVec.ofNat 32 (∑ r, ∑ c, both (a r c) l (b r c) m) := by
  have hv := pairs_at h B a b hB (broadcastInDim S65025 ![] bcast_S_S65025 (id (constantI S_ 32 0#32))) (fun _ => rfl)
  generalize maxsi (broadcastInDim S65025 ![] bcast_S_S65025 (id (constantI S_ 32 0#32))) (shapeCast _ B h) = v at hv ⊢
  pointwise [tabSmall]
  exact bins_at h a b _ _ _ _ (fun _ => rfl) (fun _ => rfl)
    (fun j => indexSmall_at v (j 0) _ ((pairNo_lt _ _).trans (by norm_num)) ((congrArg v (one_axis j)).trans (hv j))) _ l m rfl

/-! ### The counts of a direction -/

/-- The pairs of codes in neighbouring places across, down the diagonal, down and down the other diagonal. -/
def across (q : Fin 256 → Fin 256 → Fin 256) (l m : Fin 256) : ℕ := ∑ r : Fin 256, ∑ c : Fin 255, both (q r c.castSucc) l (q r c.succ) m
def diag (q : Fin 256 → Fin 256 → Fin 256) (l m : Fin 256) : ℕ := ∑ r : Fin 255, ∑ c : Fin 255, both (q r.castSucc c.castSucc) l (q r.succ c.succ) m
def down (q : Fin 256 → Fin 256 → Fin 256) (l m : Fin 256) : ℕ := ∑ r : Fin 255, ∑ c : Fin 256, both (q r.castSucc c) l (q r.succ c) m
def anti (q : Fin 256 → Fin 256 → Fin 256) (l m : Fin 256) : ℕ := ∑ r : Fin 255, ∑ c : Fin 255, both (q r.castSucc c.succ) l (q r.succ c.castSucc) m

theorem both_le (a l b m : Fin 256) : both a l b m ≤ 1 := by
  unfold both; split <;> omega

theorem count_lt {n0 n1 : ℕ} (hn0 : n0 ≤ 256) (hn1 : n1 ≤ 256) (a b : Fin n0 → Fin n1 → Fin 256) (l m : Fin 256) :
    ∑ r, ∑ c, both (a r c) l (b r c) m < 2 ^ 31 := by
  have h1 : ∑ r, ∑ c, both (a r c) l (b r c) m ≤ ∑ _r : Fin n0, ∑ _c : Fin n1, 1 :=
    Finset.sum_le_sum fun r _ => Finset.sum_le_sum fun c _ => both_le _ _ _ _
  have h2 : ∑ _r : Fin n0, ∑ _c : Fin n1, 1 = n0 * n1 := by simp
  have h3 : n0 * n1 ≤ 256 * 256 := Nat.mul_le_mul hn0 hn1
  omega

section Bounds

variable (q : Fin 256 → Fin 256 → Fin 256) (l m : Fin 256)

theorem across_lt : across q l m < 2 ^ 31 :=
  count_lt (n0 := 256) (n1 := 255) (by norm_num) (by norm_num) (fun r c => q r c.castSucc) (fun r c => q r c.succ) l m
theorem diag_lt : diag q l m < 2 ^ 31 :=
  count_lt (n0 := 255) (n1 := 255) (by norm_num) (by norm_num) (fun r c => q r.castSucc c.castSucc) (fun r c => q r.succ c.succ) l m
theorem down_lt : down q l m < 2 ^ 31 :=
  count_lt (n0 := 255) (n1 := 256) (by norm_num) (by norm_num) (fun r c => q r.castSucc c) (fun r c => q r.succ c) l m
theorem anti_lt : anti q l m < 2 ^ 31 :=
  count_lt (n0 := 255) (n1 := 255) (by norm_num) (by norm_num) (fun r c => q r.castSucc c.succ) (fun r c => q r.succ c.castSucc) l m

end Bounds

theorem sitofp_count (n : ℕ) (hn : n < 2 ^ 31) : FloatOps.sitofp (F := Ideal) .f32 (BitVec.ofNat 32 n) = ofN n := by
  show (((BitVec.ofNat 32 n).toInt : ℝ) : EReal) = _
  rw [toInt_small n hn]
  simp [ofN]

/-! ### The directions -/

section Directions

variable (C : IVec S256x256 32) (q : Fin 256 → Fin 256 → Fin 256) (hC : ∀ i j, C (ix2 i j) = BitVec.ofNat 32 (q i j).val)

include hC in
theorem code_at (i j y z : Fin 256) (hy : y.val = i.val) (hz : z.val = j.val) : C (ix2 y z) = BitVec.ofNat 32 (q i j).val := by
  obtain rfl := Fin.ext hy
  obtain rfl := Fin.ext hz
  exact hC _ _

include hC in
theorem bodyA_at (r : Fin 256) (c : Fin 255) : bodyA C (ix2 r c) = BitVec.ofNat 32 (pairNo (q r c.castSucc) (q r c.succ)) := by
  pointwise [bodyA]
  exact (congrArg₂ (fun x y => IntOp.addi (IntOp.muli x 256#32) y) (code_at C q hC r c.castSucc _ _ rfl rfl) (code_at C q hC r c.succ _ _ rfl (Nat.add_comm _ _))).trans (pair_word _ _)

include hC in
theorem bodyB_at (r c : Fin 255) : bodyB C (ix2 r c) = BitVec.ofNat 32 (pairNo (q r.castSucc c.castSucc) (q r.succ c.succ)) := by
  pointwise [bodyB]
  exact (congrArg₂ (fun x y => IntOp.addi (IntOp.muli x 256#32) y) (code_at C q hC r.castSucc c.castSucc _ _ rfl rfl) (code_at C q hC r.succ c.succ _ _ (Nat.add_comm _ _) (Nat.add_comm _ _))).trans (pair_word _ _)

include hC in
theorem bodyC_at (r : Fin 255) (c : Fin 256) : bodyC C (ix2 r c) = BitVec.ofNat 32 (pairNo (q r.castSucc c) (q r.succ c)) := by
  pointwise [bodyC]
  exact (congrArg₂ (fun x y => IntOp.addi (IntOp.muli x 256#32) y) (code_at C q hC r.castSucc c _ _ rfl rfl) (code_at C q hC r.succ c _ _ (Nat.add_comm _ _) rfl)).trans (pair_word _ _)

include hC in
theorem bodyD_at (r c : Fin 255) : bodyD C (ix2 r c) = BitVec.ofNat 32 (pairNo (q r.castSucc c.succ) (q r.succ c.castSucc)) := by
  pointwise [bodyD]
  exact (congrArg₂ (fun x y => IntOp.addi (IntOp.muli x 256#32) y) (code_at C q hC r.castSucc c.succ _ _ rfl (Nat.add_comm _ _)) (code_at C q hC r.succ c.castSucc _ _ (Nat.add_comm _ _) rfl)).trans (pair_word _ _)

include hC in
theorem tabA_at (l m : Fin 256) : tabA C (ix2 l m) = BitVec.ofNat 32 (across q l m) := tabBig_at _ _ _ _ (bodyA_at C q hC) l m
include hC in
theorem tabB_at (l m : Fin 256) : tabB C (ix2 l m) = BitVec.ofNat 32 (diag q l m) := tabSmall_at _ _ _ _ (bodyB_at C q hC) l m
include hC in
theorem tabC_at (l m : Fin 256) : tabC C (ix2 l m) = BitVec.ofNat 32 (down q l m) := tabBig_at _ _ _ _ (bodyC_at C q hC) l m
include hC in
theorem tabD_at (l m : Fin 256) : tabD C (ix2 l m) = BitVec.ofNat 32 (anti q l m) := tabSmall_at _ _ _ _ (bodyD_at C q hC) l m

end Directions

/-! ### The variance -/

theorem four : Ideal.ofBits .f32 0x40800000#32 = ((4 : ℝ) : EReal) := by
  simp [Ideal.ofBits, Ideal.ieee, -EReal.coe_mul]; norm_num
theorem quarter : Ideal.ofBits .f32 0x3E800000#32 = ((1 / 4 : ℝ) : EReal) := by
  simp [Ideal.ofBits, Ideal.ieee, -EReal.coe_mul]; norm_num
theorem sitofp_none : FloatOps.sitofp (F := Ideal) .f32 (0#32) = (0 : EReal) := (sitofp_count 0 (by norm_num)).trans ofN_zero

/-- The variance of four numbers. -/
def var4 (x0 x1 x2 x3 : ℝ) : ℝ :=
  ((x0 - (x0 + x1 + x2 + x3) / 4) ^ 2 + (x1 - (x0 + x1 + x2 + x3) / 4) ^ 2 + (x2 - (x0 + x1 + x2 + x3) / 4) ^ 2 + (x3 - (x0 + x1 + x2 + x3) / 4) ^ 2) / 4

theorem spread_eq (x0 x1 x2 x3 : ℝ) : spread x0 x1 x2 x3 = ((var4 x0 x1 x2 x3 : ℝ) : EReal) := by
  simp only [spread, quarter, ← EReal.coe_add, ← EReal.coe_sub, ← EReal.coe_mul, EReal.coe_eq_coe_iff, var4]
  ring

theorem fromMean_at (T : FVec Ideal S256x256x4 .f32) (l m : Fin 256) (k : Fin 4) (x : Fin 4 → ℝ) (hT : ∀ k, T (ix3 l m k) = ((x k : ℝ) : EReal)) :
    fromMean T (ix3 l m k) = ((x k - (x 0 + x 1 + x 2 + x 3) / 4 : ℝ) : EReal) := by
  pointwise [fromMean]
  rw [four, Ideal.div_coe (by norm_num), Fin.sum_univ_four]
  simp only [hT, ← EReal.coe_add, ← EReal.coe_sub, ← EReal.coe_mul, EReal.coe_eq_coe_iff]
  ring

theorem variance_at (T : FVec Ideal S256x256x4 .f32) (l m : Fin 256) (x : Fin 4 → ℝ) (hT : ∀ k, T (ix3 l m k) = ((x k : ℝ) : EReal)) :
    variance (fromMean T) (ix2 l m) = ((var4 (x 0) (x 1) (x 2) (x 3) : ℝ) : EReal) := by
  have hV := fun k => fromMean_at T l m k x hT
  generalize fromMean T = V at hV ⊢
  pointwise [variance, divisor]
  rw [four, sitofp_none, sub_zero, if_pos (by norm_num), Ideal.div_coe (by norm_num), Fin.sum_univ_four]
  simp only [hV, ← EReal.coe_add, ← EReal.coe_sub, ← EReal.coe_mul, EReal.coe_eq_coe_iff, var4]
  ring

theorem tabs_at (A B C D : IVec S256x256 32) (l m : Fin 256) (n : Fin 4 → ℕ) (hn : ∀ k, n k < 2 ^ 31) (hA : A (ix2 l m) = BitVec.ofNat 32 (n 0))
    (hB : B (ix2 l m) = BitVec.ofNat 32 (n 1)) (hC : C (ix2 l m) = BitVec.ofNat 32 (n 2)) (hD : D (ix2 l m) = BitVec.ofNat 32 (n 3)) (k : Fin 4) :
    tabs A B C D (ix3 l m k) = ((n k : ℝ) : EReal) := by
  refine Eq.trans ?_ (sitofp_count (n k) (hn k))
  match k with
  | 0 => pointwise [tabs]; rw [hA]
  | 1 => pointwise [tabs]; rw [hB]
  | 2 => pointwise [tabs]; rw [hC]
  | 3 => pointwise [tabs]; rw [hD]

/-- The reference's last plane over its codes. -/
def refLast (C : IVec S256x256 32) : FVec Ideal S256x256 .f32 := variance (fromMean (tabs (tabA C) (tabB C) (tabC C) (tabD C)))

theorem refLast_at (C : IVec S256x256 32) (q : Fin 256 → Fin 256 → Fin 256) (hC : ∀ i j, C (ix2 i j) = BitVec.ofNat 32 (q i j).val) (l m : Fin 256) :
    refLast C (ix2 l m) = ((var4 (across q l m) (diag q l m) (down q l m) (anti q l m) : ℝ) : EReal) := by
  refine variance_at _ l m (fun k => ((![across q l m, diag q l m, down q l m, anti q l m] k : ℕ) : ℝ)) fun k =>
    tabs_at _ _ _ _ l m ![across q l m, diag q l m, down q l m, anti q l m] (fun k => ?_) (tabA_at C q hC l m) (tabB_at C q hC l m) (tabC_at C q hC l m) (tabD_at C q hC l m) k
  match k with
  | 0 => exact across_lt q l m
  | 1 => exact diag_lt q l m
  | 2 => exact down_lt q l m
  | 3 => exact anti_lt q l m

end Cert.Proof

end
-- ==== Proof.Neighbours.lean ====
/-
  Cyclic neighbours and neighbours: of the cyclic pairs of a direction those that do not cross the edge are the pairs of
  the band, the others are what the kernel takes away. So both programs' last planes are the same.
-/
module

public import proofs.«01_k».proof.Proof.Tables

@[expose] public section

noncomputable section

namespace Cert.Proof

open Idealize.ShloMosaic
open Cert.KernelIdeal.Run (lastV planeOf codesV turn0 turn255 finV)

/-! ### Cyclic sums -/

section Cyclic

variable {n : ℕ}

theorem prev_zero : (0 : Fin (n + 1)) + -1 = Fin.last n := by
  rw [zero_add]
  exact (eq_neg_of_add_eq_zero_left (Fin.last_add_one n)).symm

theorem prev_succ (c : Fin n) : c.succ + -1 = c.castSucc := by
  rw [← Fin.coeSucc_eq_succ, add_neg_cancel_right]

/-- A sum over the places and their next ones: the inner places, and the last with the first. -/
theorem sum_next (f : Fin (n + 1) → Fin (n + 1) → ℕ) : ∑ c, f c (c + 1) = (∑ c : Fin n, f c.castSucc c.succ) + f (Fin.last n) 0 := by
  rw [Fin.sum_univ_castSucc, Fin.last_add_one]
  simp only [Fin.coeSucc_eq_succ]

/-- A sum over the places and the ones before them. -/
theorem sum_prev (f : Fin (n + 1) → Fin (n + 1) → ℕ) : ∑ c, f c (c + -1) = f 0 (Fin.last n) + ∑ c : Fin n, f c.succ c.castSucc := by
  rw [Fin.sum_univ_succ, prev_zero]
  simp only [prev_succ]

theorem sum_next_inner (f : Fin (n + 1) → Fin (n + 1) → ℕ) : (∑ t : Fin (n + 1), if t.val < n then f t (t + 1) else 0) = ∑ c : Fin n, f c.castSucc c.succ := by
  rw [sum_next fun a b => if a.val < n then f a b else 0, if_neg (by rw [Fin.val_last]; omega), add_zero]
  exact Finset.sum_congr rfl fun c _ => if_pos c.isLt

theorem sum_prev_inner (f : Fin (n + 1) → Fin (n + 1) → ℕ) : (∑ t : Fin (n + 1), if 0 < t.val then f t (t - 1) else 0) = ∑ c : Fin n, f c.succ c.castSucc := by
  simp only [sub_eq_add_neg]
  rw [sum_prev fun a b => if 0 < a.val then f a b else 0, if_neg (by rw [Fin.val_zero]; omega), zero_add]
  exact Finset.sum_congr rfl fun c _ => if_pos (by rw [Fin.val_succ]; omega)

variable (f : Fin (n + 1) → Fin (n + 1) → Fin (n + 1) → Fin (n + 1) → ℕ)

/-- The pairs one row and one column on, cyclically: the inner ones, those over the columns' edge, those over the rows' alone. -/
theorem sum_diag : ∑ r, ∑ c, f r c (r + 1) (c + 1) = (∑ r : Fin n, ∑ c : Fin n, f r.castSucc c.castSucc r.succ c.succ)
    + ((∑ t, f t (Fin.last n) (t + 1) 0) + ∑ t : Fin (n + 1), if t.val < n then f (Fin.last n) t 0 (t + 1) else 0) := by
  rw [sum_next_inner fun a b => f (Fin.last n) a 0 b, Finset.sum_congr rfl fun r _ => sum_next fun a b => f r a (r + 1) b, Finset.sum_add_distrib,
    sum_next fun r r' => ∑ c : Fin n, f r c.castSucc r' c.succ]
  omega

/-- The same one row on and one column back. -/
theorem sum_anti : ∑ r, ∑ c, f r c (r + 1) (c + -1) = (∑ r : Fin n, ∑ c : Fin n, f r.castSucc c.succ r.succ c.castSucc)
    + ((∑ t, f t 0 (t + 1) (Fin.last n)) + ∑ t : Fin (n + 1), if 0 < t.val then f (Fin.last n) t 0 (t - 1) else 0) := by
  rw [sum_prev_inner fun a b => f (Fin.last n) a 0 b, Finset.sum_congr rfl fun r _ => sum_prev fun a b => f r a (r + 1) b, Finset.sum_add_distrib,
    sum_next fun r r' => ∑ c : Fin n, f r c.succ r' c.castSucc]
  omega

theorem sum_across : ∑ r, ∑ c, f r c (r + 0) (c + 1) = (∑ r, ∑ c : Fin n, f r c.castSucc r c.succ) + ∑ t, f t (Fin.last n) t 0 := by
  simp only [add_zero]
  rw [Finset.sum_congr rfl fun r _ => sum_next fun a b => f r a r b, Finset.sum_add_distrib]

theorem sum_down : ∑ r, ∑ c, f r c (r + 1) (c + 0) = (∑ r : Fin n, ∑ c, f r.castSucc c r.succ c) + ∑ t, f (Fin.last n) t 0 t := by
  simp only [add_zero]
  rw [sum_next fun r r' => ∑ c, f r c r' c]

end Cyclic

section Sums

variable (q : Fin 256 → Fin 256 → Fin 256) (l m : Fin 256)

theorem cyc_across : cyc q 0 1 l m = across q l m + ∑ t, both (q t 255) l (q t 0) m :=
  sum_across (n := 255) fun r c r' c' => both (q r c) l (q r' c') m

theorem cyc_down : cyc q 1 0 l m = down q l m + ∑ t, both (q 255 t) l (q 0 t) m :=
  sum_down (n := 255) fun r c r' c' => both (q r c) l (q r' c') m

theorem cyc_diag : cyc q 1 1 l m = diag q l m
    + ((∑ t : Fin 256, both (q t 255) l (q (t + 1) 0) m) + ∑ t : Fin 256, if t.val < 255 then both (q 255 t) l (q 0 (t + 1)) m else 0) :=
  sum_diag (n := 255) fun r c r' c' => both (q r c) l (q r' c') m

theorem cyc_anti : cyc q 1 (-1) l m = anti q l m
    + ((∑ t : Fin 256, both (q t 0) l (q (t + 1) 255) m) + ∑ t : Fin 256, if 0 < t.val then both (q 255 t) l (q 0 (t - 1)) m else 0) :=
  sum_anti (n := 255) fun r c r' c' => both (q r c) l (q r' c') m

end Sums

/-- What is left when the part `e` is taken from the whole. -/
theorem ofN_sub (n k e : ℕ) (h : n = k + e) : ofN n - ofN e = ((k : ℝ) : EReal) := by
  rw [h, ofN, ofN, ← EReal.coe_sub]
  exact congrArg _ (by push_cast; ring)

/-- The kernel's last plane. -/
theorem lastV_at (band : FVec Ideal Cert.KernelIdeal.S1x256x256 .f32) (l m : Fin 256) : lastV (F := Ideal) band (ix3 0 l m)
    = ((var4 (across (codes band) l m) (diag (codes band) l m) (down (codes band) l m) (anti (codes band) l m) : ℝ) : EReal) := by
  rw [lastV, fin_at _ _ _ (codes band) (plane_at band) (turn0_at band) (turn255_at band), cnt0_at, cnt1_at, cnt2_at, cnt3_at,
    ofN_sub _ _ _ (cyc_across (codes band) l m), ofN_sub _ _ _ (cyc_diag (codes band) l m), ofN_sub _ _ _ (cyc_down (codes band) l m),
    ofN_sub _ _ _ (cyc_anti (codes band) l m), spread_eq]

/-- The last planes of the kernel and the reference over one band are equal. -/
theorem last_eq (band : FVec Ideal Cert.KernelIdeal.S1x256x256 .f32) (X : FVec Ideal Cert.ReferenceIdeal.S256x256 .f32)
    (h : ∀ i j, X (ix2 i j) = band (ix3 0 i j)) (l m : Fin 256) : lastV (F := Ideal) band (ix3 0 l m) = refLast (refCodes X) (ix2 l m) := by
  have hX : (fun a b => X (ix2 a b)) = vals band := funext fun a => funext fun b => h a b
  rw [lastV_at, refLast_at (refCodes X) (codes band) fun i j => by rw [refCodes_at, hX]; rfl]

end Cert.Proof

end
-- ==== Proof.Value.lean ====
/-
  The results of the two programs: the image, and the one last plane after it.
-/
module

public import proofs.«01_k».proof.Proof.Neighbours
public import proofs.«01_k».proof.Proof.Run
public import proofs.«01_k».proof.Proof.Gen.ReferenceIdeal.Run
public import Idealize.ShloMosaic.Lib.DynamicIndex

@[expose] public section

set_option maxRecDepth 16384

noncomputable section

namespace Cert.Proof

open Idealize.ShloMosaic
open Idealize.SL.Sem
open Cert.ReferenceIdeal Cert.ReferenceIdeal.Gen

/-! ### The reference's result over a variable -/

/-- The band the index names. -/
def refBand (img : FVec Ideal S180x256x256 .f32) (k : IVec S_ 32) : FVec Ideal S256x256 .f32 :=
  shapeCast _ (Host.dynamicSlice S1x256x256 img (fun a => (((![select (cmpi .slt k (constantI S_ 32 0#32)) (addi k (constantI S_ 32 180#32)) k,
    select (cmpi .slt (constantI S_ 32 0#32) (constantI S_ 32 0#32)) (addi (constantI S_ 32 0#32) (constantI S_ 32 256#32)) (constantI S_ 32 0#32),
    select (cmpi .slt (constantI S_ 32 0#32) (constantI S_ 32 0#32)) (addi (constantI S_ 32 0#32) (constantI S_ 32 256#32)) (constantI S_ 32 0#32)] : Fin 3 → IVec S_ 32)) a
      (Shape.Idx.first h_S_)).toInt) sliceFits_S180x256x256_S1x256x256) shapeCasts_S1x256x256_S256x256

/-- The image with a plane after it. -/
def refOut (img : FVec Ideal S180x256x256 .f32) (v : FVec Ideal S256x256 .f32) : FVec Ideal S181x256x256 .f32 :=
  concatenate S181x256x256 0 [⟨S180x256x256, img⟩, ⟨S1x256x256, broadcastInDim S1x256x256 ![1, 2] bcast_S256x256_S1x256x256_1_2 v⟩] concatenates_S180x256x256_S1x256x256_S181x256x256_d0

/-- It is the image's plane `k`, which lies in the image. -/
theorem refBand_at (img : FVec Ideal S180x256x256 .f32) (k : IVec S_ 32) (hk : (k ValueIdx.ix0).toNat < 180) (i j : Fin 256) :
    refBand img k (ix2 i j) = img (ix3 ⟨(k ValueIdx.ix0).toNat, hk⟩ i j) := by
  have e : Shape.Idx.first h_S_ = ValueIdx.ix0 := funext fun a => a.elim0
  have hz : (k ValueIdx.ix0).toInt = ((k ValueIdx.ix0).toNat : ℤ) := BitVec.toInt_eq_toNat_of_lt (by omega)
  suffices h : ∀ z, z = img (ix3 ⟨(k ValueIdx.ix0).toNat, hk⟩ i j) → refBand img k (ix2 i j) = z from h _ rfl
  intro z hzz
  pointwise [refBand]
  rw [hzz]
  refine congrArg img (funext fun a => ?_)
  fin_cases a
  · refine Fin.ext ?_
    show (min (max (select (cmpi .slt k (constantI S_ 32 0#32)) (addi k (constantI S_ 32 180#32)) k (Shape.Idx.first h_S_)).toInt 0) ((180 - 1 : ℕ) : ℤ)).toNat
      = (k ValueIdx.ix0).toNat
    rw [e, select_slt_zero_of_nonneg k _ _ _ (by omega), hz]
    omega
  · refine Fin.ext ?_
    show 0 + i.val = i.val
    omega
  · refine Fin.ext ?_
    show 0 + j.val = j.val
    omega

/-- The image with a plane after it, the plane given by its entries. -/
theorem refOut_eq (img : FVec Ideal S180x256x256 .f32) (v : FVec Ideal S256x256 .f32) (w : FVec Ideal Cert.KernelIdeal.S1x256x256 .f32)
    (h : ∀ i j, w (ix3 0 i j) = v (ix2 i j)) : refOut img v = Cert.KernelIdeal.Run.outV (F := Ideal) img w := by
  have key : ∀ (a : Fin 181) (b c : Fin 256), refOut img v (ix3 a b c) = if h : a.val < 180 then img (ix3 ⟨a.val, h⟩ b c) else v (ix2 b c) := by
    intro a b c
    pointwise [refOut]
  funext y
  refine (congrArg (refOut img v) (show y = ix3 (y 0) (y 1) (y 2) from funext fun a => by fin_cases a <;> rfl)).trans ((key (y 0) (y 1) (y 2)).trans ?_)
  unfold Cert.KernelIdeal.Run.outV
  split
  · rfl
  · exact (h (y 1) (y 2)).symm

/-! ### The reference's result as printed -/

open Cert.ReferenceIdeal.Value

theorem band_term (L : Valuation τ sig (Elt Ideal)) :
    res_main_v10 L = refBand (L (Proc.devRef .tc main_arg0)) (L (Proc.devRef .tc main_arg1)) := rfl

theorem mean_term (L : Valuation τ sig (Elt Ideal)) : res_main_call6_v5 L
    = fromMean (tabs (tabA (refCodes (res_main_v10 L))) (tabB (refCodes (res_main_v10 L))) (tabC (refCodes (res_main_v10 L))) (tabD (refCodes (res_main_v10 L)))) := rfl

theorem last_term (L : Valuation τ sig (Elt Ideal)) :
    select (broadcastInDim S256x256 ![] bcast_S_S256x256 (cmpf .ogt (res_main_call6_v8 L) (constant S_ .f32 0x00000000#32)))
      (Host.divf (Host.reduceAdd (mulf (res_main_call6_v5 L) (res_main_call6_v5 L)) (constant S_ .f32 0x00000000#32) reducesTo_S256x256x4_S256x256_d2 h_S_)
        (broadcastInDim S256x256 ![] bcast_S_S256x256 (res_main_call6_v8 L)))
      (broadcastInDim S256x256 ![] bcast_S_S256x256 (id (constant S_ .f32 0x7FC00000#32)))
    = refLast (refCodes (res_main_v10 L)) := by
  rw [mean_term]; rfl

/-- The reference ends with the image and the plane that its codes give. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v100)
        = refOut (m ((c.tc : Thread nD τ).loc main_arg0))
          (refLast (refCodes (refBand (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c).1.trans (congrArg (refOut _)
    ((last_term _).trans (congrArg (fun X => refLast (refCodes X)) (band_term _)))), (h c).2⟩) (Cert.ReferenceIdeal.Value.run m ρ)

/-! ### The band the kernel stages -/

/-- It is the plane of the image that the index names. -/
theorem staged_at (m : (ℓ : Loc Cert.KernelIdeal.nD Cert.KernelIdeal.τ Cert.KernelIdeal.sig) → Buf (Elt Ideal) ℓ) (ρ : Dev Cert.KernelIdeal.nD → PrngReg)
    (hidx : Cert.KernelIdeal.Run.InRange m) (c : Dev Cert.KernelIdeal.nD) (i j : Fin 256) :
    Cert.KernelIdeal.Run.stg m ρ hidx c (ix3 0 i j)
      = (show FVec Ideal S180x256x256 .f32 from m ((c.tc : Thread Cert.KernelIdeal.nD Cert.KernelIdeal.τ).loc Cert.KernelIdeal.main_arg0))
        (ix3 ⟨_, hidx c⟩ i j) := by
  obtain rfl : c = 0 := Subsingleton.elim _ _
  refine (congrFun (Cert.KernelIdeal.Run.V_arg m ρ 0 Cert.KernelIdeal.main_arg0 (by decide)) _).trans (congrArg (m _) (funext fun a => ?_))
  have e := Cert.KernelIdeal.Run.transform_tab m ρ (Cert.KernelIdeal.grid0.coords Cert.KernelIdeal.Gen.t0_0)
  fin_cases a
  · refine Fin.ext ?_
    show Cert.KernelIdeal.cc0_transform_0 Cert.KernelIdeal.Gen.inb_S1_S1_0 Cert.KernelIdeal.Gen.numel1_S1 (Cert.KernelIdeal.Run.tab m ρ) (Cert.KernelIdeal.grid0.coords Cert.KernelIdeal.Gen.t0_0) 0 * 1 + 1 * 0 = _
    rw [e]
    exact Nat.mul_one _
  · refine Fin.ext ?_
    show Cert.KernelIdeal.cc0_transform_0 Cert.KernelIdeal.Gen.inb_S1_S1_0 Cert.KernelIdeal.Gen.numel1_S1 (Cert.KernelIdeal.Run.tab m ρ) (Cert.KernelIdeal.grid0.coords Cert.KernelIdeal.Gen.t0_0) 1 * 256 + 1 * i.val = i.val
    rw [e]
    exact (Nat.zero_add _).trans (Nat.one_mul _)
  · refine Fin.ext ?_
    show Cert.KernelIdeal.cc0_transform_0 Cert.KernelIdeal.Gen.inb_S1_S1_0 Cert.KernelIdeal.Gen.numel1_S1 (Cert.KernelIdeal.Run.tab m ρ) (Cert.KernelIdeal.grid0.coords Cert.KernelIdeal.Gen.t0_0) 2 * 256 + 1 * j.val = j.val
    rw [e]
    exact (Nat.zero_add _).trans (Nat.one_mul _)

/-- The two results are equal. -/
theorem result_eq (m : (ℓ : Loc Cert.KernelIdeal.nD Cert.KernelIdeal.τ Cert.KernelIdeal.sig) → Buf (Elt Ideal) ℓ) (ρ : Dev Cert.KernelIdeal.nD → PrngReg)
    (hidx : Cert.KernelIdeal.Run.InRange m) (c : Dev Cert.KernelIdeal.nD) (img : FVec Ideal S180x256x256 .f32) (k : IVec S_ 32)
    (hi : img = (show FVec Ideal S180x256x256 .f32 from m ((c.tc : Thread Cert.KernelIdeal.nD Cert.KernelIdeal.τ).loc Cert.KernelIdeal.main_arg0)))
    (hk : k = (show IVec S_ 32 from m ((c.tc : Thread Cert.KernelIdeal.nD Cert.KernelIdeal.τ).loc Cert.KernelIdeal.main_arg1))) :
    refOut img (refLast (refCodes (refBand img k)))
      = Cert.KernelIdeal.Run.outV (F := Ideal) (m ((c.tc : Thread Cert.KernelIdeal.nD Cert.KernelIdeal.τ).loc Cert.KernelIdeal.main_arg0))
        (Cert.KernelIdeal.Run.lastV (F := Ideal) (Cert.KernelIdeal.Run.stg m ρ hidx c)) := by
  subst hi hk
  exact refOut_eq _ _ _ fun l n => last_eq _ _ (fun i j => (refBand_at _ _ (hidx c) i j).trans (staged_at m ρ hidx c i j).symm) l n

end Cert.Proof

end
-- ==== Proof.lean ====
/- The proof of the certificate's claims: the frames of the kernel as printed and idealized, each from its run
   (`Run.run_main`, the index in range by the precondition), the frame of the reference from its run, that the
   idealization rewrote nothing, and that the idealized kernel and the reference end with the same result
   (`result_eq`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Range
public import proofs.«01_k».proof.Proof.Value
public import Idealize.ShloMosaic.Adequacy
public import Idealize.ShloMosaic.Init

@[expose] public section

noncomputable section

namespace Cert.Proof

open Idealize.ShloMosaic Idealize.SL.Sem

instance bandFacts : Cert.Pre_index_names_band.Facts := ⟨⟩

/-- The printed kernel runs, leaves its arguments and its counters as they were. -/
theorem frame_kernel : Cert.quiescent_Kernel (hKernel := Cert.Kernel.Gen.facts) (hPre_index_names_band := bandFacts) := fun m ρ hm =>
  (θ_run _ _ _).mono (fun _ h => ⟨fun c => ⟨(h.1 c).1, (h.1 c).2.1⟩, h.2⟩)
    (Cert.Kernel.Run.run_main m ρ fun c => in_range (F := Bits) _ _ (hm c))

/-- The idealized kernel likewise. -/
theorem frame_ideal : Cert.quiescent_KernelIdeal (hKernelIdeal := Cert.KernelIdeal.Gen.facts) (hPre_index_names_band := bandFacts) := fun m ρ hm =>
  (θ_run _ _ _).mono (fun _ h => ⟨fun c => ⟨(h.1 c).1, (h.1 c).2.1⟩, h.2⟩)
    (Cert.KernelIdeal.Run.run_main m ρ fun c => in_range (F := Ideal) _ _ (hm c))

/-- The reference likewise. -/
theorem frame_reference : Cert.quiescent_ReferenceIdeal (hReferenceIdeal := Cert.ReferenceIdeal.Gen.facts) := fun m ρ _ =>
  (θ_run _ _ _).mono (fun _ h => ⟨fun c => (h c).2, sem_eq_zero_of_no_sems rfl _⟩) (Cert.ReferenceIdeal.Value.run m ρ)

/-- The kernel's result is the reference's. -/
theorem algebraic : Cert.algebraic_KernelIdeal_ReferenceIdeal (hKernelIdeal := Cert.KernelIdeal.Gen.facts)
    (hReferenceIdeal := Cert.ReferenceIdeal.Gen.facts) (hPre_index_names_band := bandFacts) := fun m ρ m' ρ' hm hargs =>
  have hidx : Cert.KernelIdeal.Run.InRange m := fun c => in_range (F := Ideal) _ _ (hm c)
  ⟨fun c => Cert.KernelIdeal.Run.outV (F := Ideal) (m ((c.tc : Thread Cert.KernelIdeal.nD Cert.KernelIdeal.τ).loc Cert.KernelIdeal.main_arg0))
      (Cert.KernelIdeal.Run.lastV (F := Ideal) (Cert.KernelIdeal.Run.stg m ρ hidx c)),
    (θ_run _ _ _).mono (fun _ h c => ⟨(h.1 c).2.2, (h.1 c).1, (h.1 c).2.1⟩) (Cert.KernelIdeal.Run.run_main m ρ hidx),
    (θ_run _ _ _).mono (fun _ h c => ⟨(h c).1.trans (result_eq m ρ hidx c _ _ (hargs c).1 (hargs c).2), (h c).2⟩) (reference_run m' ρ')⟩

theorem claim : Cert.Claim := ⟨Cert.Kernel.Gen.facts, Cert.KernelIdeal.Gen.facts, Cert.ReferenceIdeal.Gen.facts, bandFacts,
  frame_kernel, frame_ideal, frame_reference, fun m ρ _ => frame_reference m ρ trivial, trivial, algebraic⟩

end Cert.Proof

end
